-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "gelu_c3" .f32 0x3D122279#32 (((Real.sqrt (2 * Real.pi⁻¹)) * (8943 / 200000) : ℝ) : EReal)
  ∧ IdealRules.named_const.Statement Cert.KernelIdeal.κ "gelu_c" .f32 0x3F4C422A#32 ((Real.sqrt (2 * Real.pi⁻¹) : ℝ) : EReal)

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S1x8192x2176 : Shape := ⟨3, ![1, 8192, 2176]⟩
abbrev S2176x10x2x128 : Shape := ⟨4, ![2176, 10, 2, 128]⟩
abbrev S10x2x128 : Shape := ⟨3, ![10, 2, 128]⟩
abbrev S_ : Shape := ⟨0, ![]⟩

class Facts : Prop where
  bcast_S_S1x8192x2176 : S_.BroadcastsInDim S1x8192x2176 (![] : Fin 0 → Fin S1x8192x2176.rank)
  reducesTo_S1x8192x2176_S_d0_1_2 : S1x8192x2176.ReducesTo [0, 1, 2] S_
  h_S_ : 0 < S_.numel
  bcast_S_S2176x10x2x128 : S_.BroadcastsInDim S2176x10x2x128 (![] : Fin 0 → Fin S2176x10x2x128.rank)
  reducesTo_S2176x10x2x128_S_d0_1_2_3 : S2176x10x2x128.ReducesTo [0, 1, 2, 3] S_
  bcast_S_S10x2x128 : S_.BroadcastsInDim S10x2x128 (![] : Fin 0 → Fin S10x2x128.rank)
  reducesTo_S10x2x128_S_d0_1_2 : S10x2x128.ReducesTo [0, 1, 2] S_

variable [Facts]

def fn {F : FTy → Type} [FloatOps F] (main_arg0 : FVec F S1x8192x2176 .bf16) (main_arg1 : FVec F S2176x10x2x128 .f32) (main_arg2 : FVec F S10x2x128 .f32) : IVec S_ 1 :=
  let main_v0 : FVec F S1x8192x2176 .bf16 := Host.absf main_arg0
  let main_cst : FVec F S_ .bf16 := constant S_ .bf16 0x4D80#16
  let main_v1 : FVec F S1x8192x2176 .bf16 := broadcastInDim S1x8192x2176 ![] bcast_S_S1x8192x2176 main_cst
  let main_v2 : IVec S1x8192x2176 1 := cmpf .ole main_v0 main_v1
  let main_c : IVec S_ 1 := constantI S_ 1 1#1
  let main_v3 : IVec S_ 1 := (fun x v => Host.reduce IntOp.andi x v reducesTo_S1x8192x2176_S_d0_1_2 h_S_) main_v2 main_c
  let main_v4 : FVec F S2176x10x2x128 .f32 := Host.absf main_arg1
  let main_cst_0 : FVec F S_ .f32 := constant S_ .f32 0x43E00000#32
  let main_v5 : FVec F S2176x10x2x128 .f32 := broadcastInDim S2176x10x2x128 ![] bcast_S_S2176x10x2x128 main_cst_0
  let main_v6 : IVec S2176x10x2x128 1 := cmpf .ole main_v4 main_v5
  let main_c_1 : IVec S_ 1 := constantI S_ 1 1#1
  let main_v7 : IVec S_ 1 := (fun x v => Host.reduce IntOp.andi x v reducesTo_S2176x10x2x128_S_d0_1_2_3 h_S_) main_v6 main_c_1
  let main_v8 : IVec S_ 1 := andi main_v3 main_v7
  let main_v9 : FVec F S10x2x128 .f32 := Host.absf main_arg2
  let main_cst_2 : FVec F S_ .f32 := constant S_ .f32 0x47800000#32
  let main_v10 : FVec F S10x2x128 .f32 := broadcastInDim S10x2x128 ![] bcast_S_S10x2x128 main_cst_2
  let main_v11 : IVec S10x2x128 1 := cmpf .ole main_v9 main_v10
  let main_c_3 : IVec S_ 1 := constantI S_ 1 1#1
  let main_v12 : IVec S_ 1 := (fun x v => Host.reduce IntOp.andi x v reducesTo_S10x2x128_S_d0_1_2 h_S_) main_v11 main_c_3
  let main_v13 : IVec S_ 1 := andi main_v8 main_v12
  main_v13
-- ==== Kernel.lean ====
abbrev S1x8192x2176 : Shape := ⟨3, ![1, 8192, 2176]⟩
abbrev S2176x10x2x128 : Shape := ⟨4, ![2176, 10, 2, 128]⟩
abbrev S10x2x128 : Shape := ⟨3, ![10, 2, 128]⟩
abbrev S10x2x2176x128 : Shape := ⟨4, ![10, 2, 2176, 128]⟩
abbrev S20x2176x128 : Shape := ⟨3, ![20, 2176, 128]⟩
abbrev S20x1x128 : Shape := ⟨3, ![20, 1, 128]⟩
abbrev S8192x2176 : Shape := ⟨2, ![8192, 2176]⟩
abbrev S8192x1280 : Shape := ⟨2, ![8192, 1280]⟩
abbrev S8192x10 : Shape := ⟨2, ![8192, 10]⟩
abbrev S8192x1 : Shape := ⟨2, ![8192, 1]⟩
abbrev S512x2176 : Shape := ⟨2, ![512, 2176]⟩
abbrev S512x1280 : Shape := ⟨2, ![512, 1280]⟩
abbrev S512x10 : Shape := ⟨2, ![512, 10]⟩
abbrev S512x1 : Shape := ⟨2, ![512, 1]⟩
abbrev S512 : Shape := ⟨1, ![512]⟩
abbrev S1x2176x128 : Shape := ⟨3, ![1, 2176, 128]⟩
abbrev S2176x128 : Shape := ⟨2, ![2176, 128]⟩
abbrev S2176x256 : Shape := ⟨2, ![2176, 256]⟩
abbrev S512x256 : Shape := ⟨2, ![512, 256]⟩
abbrev S512x128 : Shape := ⟨2, ![512, 128]⟩
abbrev S1x1x128 : Shape := ⟨3, ![1, 1, 128]⟩
abbrev S1x128 : Shape := ⟨2, ![1, 128]⟩

abbrev nBuf : Space → Nat
  | .hbm => 12
  | .vmem => 12
  | .smem => 0
  | _ => 0

abbrev bufTy : (tb : Table) → Fin (tcTables nBuf tb) → BufTy
  | .hbm, ⟨0, _⟩ => ⟨S1x8192x2176, .bf16⟩
  | .hbm, ⟨1, _⟩ => ⟨S2176x10x2x128, .f32⟩
  | .hbm, ⟨2, _⟩ => ⟨S10x2x128, .f32⟩
  | .hbm, ⟨3, _⟩ => ⟨S2176x10x2x128, .fp8e4m3⟩
  | .hbm, ⟨4, _⟩ => ⟨S10x2x2176x128, .fp8e4m3⟩
  | .hbm, ⟨5, _⟩ => ⟨S20x2176x128, .fp8e4m3⟩
  | .hbm, ⟨6, _⟩ => ⟨S20x1x128, .f32⟩
  | .hbm, ⟨7, _⟩ => ⟨S8192x2176, .bf16⟩
  | .hbm, ⟨8, _⟩ => ⟨S8192x1280, .fp8e4m3⟩
  | .hbm, ⟨9, _⟩ => ⟨S8192x10, .f32⟩
  | .hbm, ⟨10, _⟩ => ⟨S8192x2176, .fp8e4m3⟩
  | .hbm, ⟨11, _⟩ => ⟨S8192x1, .f32⟩
  | .local _ .vmem, ⟨0, _⟩ => ⟨S512x2176, .bf16⟩
  | .local _ .vmem, ⟨1, _⟩ => ⟨S512x2176, .bf16⟩
  | .local _ .vmem, ⟨2, _⟩ => ⟨S20x2176x128, .fp8e4m3⟩
  | .local _ .vmem, ⟨3, _⟩ => ⟨S20x1x128, .f32⟩
  | .local _ .vmem, ⟨4, _⟩ => ⟨S512x1280, .fp8e4m3⟩
  | .local _ .vmem, ⟨5, _⟩ => ⟨S512x1280, .fp8e4m3⟩
  | .local _ .vmem, ⟨6, _⟩ => ⟨S512x10, .f32⟩
  | .local _ .vmem, ⟨7, _⟩ => ⟨S512x10, .f32⟩
  | .local _ .vmem, ⟨8, _⟩ => ⟨S512x2176, .fp8e4m3⟩
  | .local _ .vmem, ⟨9, _⟩ => ⟨S512x2176, .fp8e4m3⟩
  | .local _ .vmem, ⟨10, _⟩ => ⟨S512x1, .f32⟩
  | .local _ .vmem, ⟨11, _⟩ => ⟨S512x1, .f32⟩
  | _, _ => ⟨S1x8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x2176x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2176 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "gelu_c" => some ((Real.sqrt (2 * Real.pi⁻¹) : ℝ) : EReal)
  | "gelu_c3" => some (((Real.sqrt (2 * Real.pi⁻¹)) * (8943 / 200000) : ℝ) : EReal)
  | _ => none
-- ==== ReferenceIdeal.lean ====
abbrev S1x8192x2176 : Shape := ⟨3, ![1, 8192, 2176]⟩
abbrev S2176x10x2x128 : Shape := ⟨4, ![2176, 10, 2, 128]⟩
abbrev S10x2x128 : Shape := ⟨3, ![10, 2, 128]⟩
abbrev S8192x2176 : Shape := ⟨2, ![8192, 2176]⟩
abbrev S2176x2560 : Shape := ⟨2, ![2176, 2560]⟩
abbrev S1x2560 : Shape := ⟨2, ![1, 2560]⟩
abbrev S8192x1280 : Shape := ⟨2, ![8192, 1280]⟩
abbrev S8192x10 : Shape := ⟨2, ![8192, 10]⟩
abbrev S8192x1 : Shape := ⟨2, ![8192, 1]⟩
abbrev S8192 : Shape := ⟨1, ![8192]⟩
abbrev S8192x2560 : Shape := ⟨2, ![8192, 2560]⟩
abbrev S8192x10x2x128 : Shape := ⟨4, ![8192, 10, 2, 128]⟩
abbrev S8192x10x1x128 : Shape := ⟨4, ![8192, 10, 1, 128]⟩
abbrev S8192x10x128 : Shape := ⟨3, ![8192, 10, 128]⟩
abbrev S8192x10x1 : Shape := ⟨3, ![8192, 10, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x8192x2176, .bf16⟩
  | .hbm, ⟨1, _⟩ => ⟨S2176x10x2x128, .f32⟩
  | .hbm, ⟨2, _⟩ => ⟨S10x2x128, .f32⟩
  | .hbm, ⟨3, _⟩ => ⟨S2176x10x2x128, .fp8e4m3⟩
  | .hbm, ⟨4, _⟩ => ⟨S8192x2176, .bf16⟩
  | .hbm, ⟨5, _⟩ => ⟨S2176x2560, .fp8e4m3⟩
  | .hbm, ⟨6, _⟩ => ⟨S1x2560, .f32⟩
  | .hbm, ⟨7, _⟩ => ⟨S8192x1280, .fp8e4m3⟩
  | .hbm, ⟨8, _⟩ => ⟨S8192x10, .f32⟩
  | .hbm, ⟨9, _⟩ => ⟨S8192x2176, .fp8e4m3⟩
  | .hbm, ⟨10, _⟩ => ⟨S8192x1, .f32⟩
  | .local _ .vmem, ⟨0, _⟩ => ⟨S8192x2176, .bf16⟩
  | .local _ .vmem, ⟨1, _⟩ => ⟨S2176x2560, .fp8e4m3⟩
  | .local _ .vmem, ⟨2, _⟩ => ⟨S1x2560, .f32⟩
  | .local _ .vmem, ⟨3, _⟩ => ⟨S8192x1280, .fp8e4m3⟩
  | .local _ .vmem, ⟨4, _⟩ => ⟨S8192x10, .f32⟩
  | .local _ .vmem, ⟨5, _⟩ => ⟨S8192x2176, .fp8e4m3⟩
  | .local _ .vmem, ⟨6, _⟩ => ⟨S8192x1, .f32⟩
  | _, _ => ⟨S1x8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "gelu_c" => some ((Real.sqrt (2 * Real.pi⁻¹) : ℝ) : EReal)
  | "gelu_k" => some ((8943 / 200000 : ℝ) : EReal)
  | "ln2" => some ((Real.log 2 : ℝ) : EReal)
  | _ => none

abbrev grid0 : Pipeline.Grid := .none

abbrev stage0_0 : Fin 1 → Memref sig .tc .vmem S8192x2176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2176x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2176 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Blocks.lean ====
/- What the kernel leaves in each of its four result arrays, block by block, at the frame's own names: per output
   window `w`, `flushed_w` says what grid point `t` writes back, `blocks_w` that this is what block `t` of the final
   array holds, and `run_blocks` is the frame run with every result array named. -/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 16 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8192x1280.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 16 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x10.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 16 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8192x2176.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x1.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v5_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v5_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v5_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_3) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_v5_2) = (dats m 0 c).arrAt 5 cfg0.N
      ∧ r.2.mem ((c : Thread nD τ).loc main_v5_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      kept_main_arg0 m r h c,
      kept_main_arg1 m r h c,
      kept_main_arg2 m r h c⟩)
    (run_main m ρ)

end Cert.KernelIdeal.Value

end
-- ==== Proof.Tile.lean ====
/- The arithmetic of one grid point as ten uses of the same few functions: the codes and scales of the rows of `x`, one
   group of 128 columns from its two weight tiles, and that group's codes and scales. -/
module

public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F] [Named F]

/-- One step of the search, on a column of values: bit `k` is set where the pattern then denotes at most `y`. -/
def stepV (y : FVec F S512x1 .f32) (e : IVec S512x1 32) (k : BitVec 32) : IVec S512x1 32 :=
  select (cmpf .oge y (bitcastToFloat .f32 (addi e (broadcast S512x1 k)))) (addi e (broadcast S512x1 k)) e

/-- The exponent bits of a column of values. -/
def searchV (y : FVec F S512x1 .f32) : IVec S512x1 32 :=
  stepV y (stepV y (stepV y (stepV y (stepV y (stepV y (stepV y (stepV y (broadcast S512x1 0#32) 1073741824#32) 536870912#32)
    268435456#32) 134217728#32) 67108864#32) 33554432#32) 16777216#32) 8388608#32

/-- The scale of each row, from the column of greatest magnitudes over 448. -/
def scaleV (y : FVec F S512x1 .f32) : FVec F S512x1 .f32 :=
  bitcastToFloat .f32 (select (cmpi .ne (searchV y) (broadcast S512x1 0#32)) (addi (searchV y) (broadcast S512x1 8388608#32))
    (broadcast S512x1 1065353216#32))

/-- The inverse scale of each row. -/
def invV (y : FVec F S512x1 .f32) : FVec F S512x1 .f32 :=
  bitcastToFloat .f32 (select (cmpi .ne (searchV y) (broadcast S512x1 0#32)) (subi (broadcast S512x1 2122317824#32) (searchV y))
    (broadcast S512x1 1065353216#32))

/-- The scales of the rows of a block of `x`. -/
def xScale (v : Vec F S512x2176 .bf16) : FVec F S512x1 .f32 := scaleV (k0_pay3 v)

/-- The codes of a block of `x`. -/
def xCode (v : Vec F S512x2176 .bf16) : FVec F S512x2176 .fp8e4m3 :=
  truncf .fp8e4m3 (minimumf (broadcast S512x2176 (Scalar.truncf .bf16 bitsLt_bf16_f32 (Scalar.ofBits .f32 0x43E00000#32)))
    (maximumf (broadcast S512x2176 (Scalar.truncf .bf16 bitsLt_bf16_f32 (Scalar.ofBits .f32 0xC3E00000#32)))
      (mulf (k0_pay2 v) (broadcastTo S512x2176 (truncf .bf16 (invV (k0_pay3 v)) bitsLt_bf16_f32) broadcasts_S512x1_S512x2176))))
    bitsLt_fp8e4m3_bf16

/-- The products of a block's codes with the two weight tiles of a group, side by side. -/
def prodV (xc : FVec F S512x2176 .fp8e4m3) (w0 w1 : Vec F S1x2176x128 .fp8e4m3) : FVec F S512x256 .f32 :=
  matmul dot_S512x2176_S2176x256_S512x256_1_0_0_1_n_n none xc
    (concatenate S2176x256 1 [⟨S2176x128, shapeCast S2176x128 w0 shapeCasts_S1x2176x128_S2176x128⟩,
      ⟨S2176x128, shapeCast S2176x128 w1 shapeCasts_S1x2176x128_S2176x128⟩] concatenates_S2176x128_S2176x128_S2176x256_d1)
    (constant S512x256 .f32 0x00000000#32)

/-- A product tile times the row scales times the column scales. -/
def rescale (p : FVec F S512x128 .f32) (xs : FVec F S512x1 .f32) (s : Vec F S1x1x128 .f32) : FVec F S512x128 .f32 :=
  mulf (mulf p (broadcastTo S512x128 xs broadcasts_S512x1_S512x128))
    (broadcastTo S512x128 (shapeCast S1x128 s shapeCasts_S1x1x128_S1x128) broadcasts_S1x128_S512x128)

/-- The gated product of a gate tile and an up tile. -/
def gated (g u : FVec F S512x128 .f32) : FVec F S512x128 .f32 :=
  mulf (mulf (mulf (broadcast S512x128 (Scalar.ofBits .f32 0x3F000000#32)) g)
    (addf (broadcast S512x128 (Scalar.ofBits .f32 0x3F800000#32))
      (tanh (mulf g (addf (broadcast S512x128 (Named.named κ "gelu_c" 0x3F4C422A#32))
        (mulf (broadcast S512x128 (Named.named κ "gelu_c3" 0x3D122279#32)) (mulf g g))))))) u

/-- One group's tile, before quantising. -/
def tile (xs : FVec F S512x1 .f32) (xc : FVec F S512x2176 .fp8e4m3) (w0 w1 : Vec F S1x2176x128 .fp8e4m3)
    (s0 s1 : Vec F S1x1x128 .f32) : FVec F S512x128 .f32 :=
  gated (rescale (extractStridedSlice S512x128 ![0, 0] (prodV xc w0 w1) slices_S512x256_o0_0_S512x128) xs s0)
    (rescale (extractStridedSlice S512x128 ![0, 128] (prodV xc w0 w1) slices_S512x256_o0_128_S512x128) xs s1)

/-- The greatest magnitude of each row of a tile, over 448. -/
def tileMax (h : FVec F S512x128 .f32) : FVec F S512x1 .f32 :=
  mulf (shapeCast S512x1 (multiReduction .maximumf [1] S512 (absf h) 0xFF800000#32 reduces_S512x128_S512 (.inl rfl) rfl)
    shapeCasts_S512_S512x1) (broadcast S512x1 (Scalar.ofBits .f32 0x3B124925#32))

/-- The scales of a tile's rows. -/
def tileScale (h : FVec F S512x128 .f32) : FVec F S512x1 .f32 := scaleV (tileMax h)

/-- The codes of a tile. -/
def tileCode (h : FVec F S512x128 .f32) : FVec F S512x128 .fp8e4m3 :=
  truncf .fp8e4m3 (minimumf (broadcast S512x128 (Scalar.ofBits .f32 0x43E00000#32))
    (maximumf (broadcast S512x128 (Scalar.ofBits .f32 0xC3E00000#32))
      (mulf h (broadcastTo S512x128 (invV (tileMax h)) broadcasts_S512x1_S512x128)))) bitsLt_fp8e4m3_f32

/-- The body's four stores, each group's piece the same function of that group's weight tiles and scales. -/
theorem out3_eq (x0 : Vec F S512x2176 .bf16) (x1 : Vec F S20x2176x128 .fp8e4m3) (x2 : Vec F S20x1x128 .f32) :
    out0_3 x0 x1 x2 = View.canon [⟨r0_61, tileCode (tile (xScale (View.ld x0 r0_0)) (xCode (View.ld x0 r0_0)) (View.ld x1 r0_56) (View.ld x1 r0_57) (View.ld x2 r0_58) (View.ld x2 r0_59))⟩,
    ⟨r0_55, tileCode (tile (xScale (View.ld x0 r0_0)) (xCode (View.ld x0 r0_0)) (View.ld x1 r0_50) (View.ld x1 r0_51) (View.ld x2 r0_52) (View.ld x2 r0_53))⟩,
    ⟨r0_49, tileCode (tile (xScale (View.ld x0 r0_0)) (xCode (View.ld x0 r0_0)) (View.ld x1 r0_44) (View.ld x1 r0_45) (View.ld x2 r0_46) (View.ld x2 r0_47))⟩,
    ⟨r0_43, tileCode (tile (xScale (View.ld x0 r0_0)) (xCode (View.ld x0 r0_0)) (View.ld x1 r0_38) (View.ld x1 r0_39) (View.ld x2 r0_40) (View.ld x2 r0_41))⟩,
    ⟨r0_37, tileCode (tile (xScale (View.ld x0 r0_0)) (xCode (View.ld x0 r0_0)) (View.ld x1 r0_32) (View.ld x1 r0_33) (View.ld x2 r0_34) (View.ld x2 r0_35))⟩,
    ⟨r0_31, tileCode (tile (xScale (View.ld x0 r0_0)) (xCode (View.ld x0 r0_0)) (View.ld x1 r0_26) (View.ld x1 r0_27) (View.ld x2 r0_28) (View.ld x2 r0_29))⟩,
    ⟨r0_25, tileCode (tile (xScale (View.ld x0 r0_0)) (xCode (View.ld x0 r0_0)) (View.ld x1 r0_20) (View.ld x1 r0_21) (View.ld x2 r0_22) (View.ld x2 r0_23))⟩,
    ⟨r0_19, tileCode (tile (xScale (View.ld x0 r0_0)) (xCode (View.ld x0 r0_0)) (View.ld x1 r0_14) (View.ld x1 r0_15) (View.ld x2 r0_16) (View.ld x2 r0_17))⟩,
    ⟨r0_13, tileCode (tile (xScale (View.ld x0 r0_0)) (xCode (View.ld x0 r0_0)) (View.ld x1 r0_8) (View.ld x1 r0_9) (View.ld x2 r0_10) (View.ld x2 r0_11))⟩,
    ⟨r0_7, tileCode (tile (xScale (View.ld x0 r0_0)) (xCode (View.ld x0 r0_0)) (View.ld x1 r0_2) (View.ld x1 r0_3) (View.ld x2 r0_4) (View.ld x2 r0_5))⟩] := rfl

theorem out4_eq (x0 : Vec F S512x2176 .bf16) (x1 : Vec F S20x2176x128 .fp8e4m3) (x2 : Vec F S20x1x128 .f32) :
    out0_4 x0 x1 x2 = View.canon [⟨r0_60, tileScale (tile (xScale (View.ld x0 r0_0)) (xCode (View.ld x0 r0_0)) (View.ld x1 r0_56) (View.ld x1 r0_57) (View.ld x2 r0_58) (View.ld x2 r0_59))⟩,
    ⟨r0_54, tileScale (tile (xScale (View.ld x0 r0_0)) (xCode (View.ld x0 r0_0)) (View.ld x1 r0_50) (View.ld x1 r0_51) (View.ld x2 r0_52) (View.ld x2 r0_53))⟩,
    ⟨r0_48, tileScale (tile (xScale (View.ld x0 r0_0)) (xCode (View.ld x0 r0_0)) (View.ld x1 r0_44) (View.ld x1 r0_45) (View.ld x2 r0_46) (View.ld x2 r0_47))⟩,
    ⟨r0_42, tileScale (tile (xScale (View.ld x0 r0_0)) (xCode (View.ld x0 r0_0)) (View.ld x1 r0_38) (View.ld x1 r0_39) (View.ld x2 r0_40) (View.ld x2 r0_41))⟩,
    ⟨r0_36, tileScale (tile (xScale (View.ld x0 r0_0)) (xCode (View.ld x0 r0_0)) (View.ld x1 r0_32) (View.ld x1 r0_33) (View.ld x2 r0_34) (View.ld x2 r0_35))⟩,
    ⟨r0_30, tileScale (tile (xScale (View.ld x0 r0_0)) (xCode (View.ld x0 r0_0)) (View.ld x1 r0_26) (View.ld x1 r0_27) (View.ld x2 r0_28) (View.ld x2 r0_29))⟩,
    ⟨r0_24, tileScale (tile (xScale (View.ld x0 r0_0)) (xCode (View.ld x0 r0_0)) (View.ld x1 r0_20) (View.ld x1 r0_21) (View.ld x2 r0_22) (View.ld x2 r0_23))⟩,
    ⟨r0_18, tileScale (tile (xScale (View.ld x0 r0_0)) (xCode (View.ld x0 r0_0)) (View.ld x1 r0_14) (View.ld x1 r0_15) (View.ld x2 r0_16) (View.ld x2 r0_17))⟩,
    ⟨r0_12, tileScale (tile (xScale (View.ld x0 r0_0)) (xCode (View.ld x0 r0_0)) (View.ld x1 r0_8) (View.ld x1 r0_9) (View.ld x2 r0_10) (View.ld x2 r0_11))⟩,
    ⟨r0_6, tileScale (tile (xScale (View.ld x0 r0_0)) (xCode (View.ld x0 r0_0)) (View.ld x1 r0_2) (View.ld x1 r0_3) (View.ld x2 r0_4) (View.ld x2 r0_5))⟩] := rfl

theorem out5_eq (x0 : Vec F S512x2176 .bf16) (x1 : Vec F S20x2176x128 .fp8e4m3) (x2 : Vec F S20x1x128 .f32) :
    out0_5 x0 x1 x2 = View.canon [⟨r0_0, xCode (View.ld x0 r0_0)⟩] := rfl

theorem out6_eq (x0 : Vec F S512x2176 .bf16) (x1 : Vec F S20x2176x128 .fp8e4m3) (x2 : Vec F S20x1x128 .f32) :
    out0_6 x0 x1 x2 = View.canon [⟨r0_1, xScale (View.ld x0 r0_0)⟩] := rfl

end Cert.KernelIdeal.Value
-- ==== Proof.Exponent.lean ====
/- The power-of-two scale of one group, over the extended reals: the search for the exponent that the kernel makes, bit
   by bit, and the logarithm and floor of the reference give one scale and one inverse. -/
module

public import Idealize.ShloMosaic.PureOps.Ideal
public import Idealize.ShloMosaic.PureOps
public import Idealize.ShloMosaic.Lib.Pointwise.Tactic

@[expose] public section

set_option maxRecDepth 16384

noncomputable section

namespace Cert.Exponent

open Idealize.ShloMosaic

/-- What the pattern with exponent field `n` and an empty mantissa denotes: zero, a power of two, or infinity. -/
def pow (n : ℕ) : EReal := if n = 0 then 0 else if n < 255 then (((2 : ℝ) ^ ((n : ℤ) - 127) : ℝ) : EReal) else ⊤

/-- The pattern with exponent field `n`. -/
def word (n : ℕ) : BitVec 32 := BitVec.ofNat 32 n <<< 23

theorem toNat_word {n : ℕ} (hn : n ≤ 256) : (word n).toNat = n * 8388608 % 4294967296 := by
  unfold word
  rw [BitVec.toNat_shiftLeft, BitVec.toNat_ofNat, Nat.shiftLeft_eq, Nat.mod_eq_of_lt (show n < 2 ^ 32 by omega)]

theorem word_add {n k : ℕ} (h : n + k ≤ 256) : word n + word k = word (n + k) := by
  apply BitVec.eq_of_toNat_eq
  rw [BitVec.toNat_add, toNat_word (by omega), toNat_word (by omega), toNat_word h]
  generalize hm : (8388608 : ℕ) = m
  generalize hM : (4294967296 : ℕ) = M
  rw [show (2 : ℕ) ^ 32 = M by rw [← hM]; norm_num, add_mul, Nat.add_mod (n * m)]

theorem word_sub {n k : ℕ} (h : k ≤ n) (hn : n ≤ 255) : word n - word k = word (n - k) := by
  have e : word (n - k) + word k = word n := by
    rw [word_add (by omega), Nat.sub_add_cancel h]
  rw [← e, BitVec.add_sub_cancel]

theorem word_ne_zero {n : ℕ} (h : 0 < n) (hn : n ≤ 255) : word n ≠ 0#32 := by
  intro e
  have := congrArg BitVec.toNat e
  rw [toNat_word (by omega), BitVec.toNat_ofNat] at this
  omega

/-- The three fields of `word n`. -/
theorem word_fields {n : ℕ} (hn : n < 256) : ((word n).extractLsb' 31 1).toNat = 0 ∧
    ((word n).extractLsb' 23 8).toNat = n ∧ ((word n).extractLsb' 0 23).toNat = 0 := by
  simp only [BitVec.extractLsb'_toNat, Nat.shiftRight_eq_div_pow, toNat_word (le_of_lt hn)]
  refine ⟨?_, ?_, ?_⟩ <;> norm_num <;> omega

/-- The pattern with exponent field `n` reads as `pow n`. -/
theorem ofBits_word {n : ℕ} (hn : n < 256) : Ideal.ofBits .f32 (word n) = pow n := by
  obtain ⟨h1, h2, h3⟩ := word_fields hn
  have h1' : ((word n).extractLsb' (8 + 23) 1 == 1#1) = false := by
    have : (word n).extractLsb' 31 1 = 0#1 := BitVec.eq_of_toNat_eq h1
    show ((word n).extractLsb' 31 1 == 1#1) = false
    rw [this]; rfl
  generalize hw : word n = w at *
  show Ideal.ieee 8 23 w = _
  unfold Ideal.ieee
  simp only [h1', h2, h3]
  unfold pow
  by_cases h0 : n = 0
  · subst h0; simp
  · by_cases h255 : n = 255
    · subst h255; simp
    · have : n < 255 := by omega
      simp only [h0, h255, this, if_true, if_false, Nat.reducePow, Nat.reduceSub]
      congr 1
      have e : (n : ℤ) - (2 ^ (8 - 1) - 1) - (23 : ℕ) = ((n : ℤ) - 127) - 23 := by norm_num
      rw [e, zpow_sub₀ (by norm_num)]
      norm_num
      try ring_nf

/-- One step of the search: the bit `k` is set when what the pattern then denotes is still at most `y`. -/
def step (y : EReal) (e k : BitVec 32) : BitVec 32 :=
  Scalar.select (FloatOps.cmpf (F := Ideal) (φ := .f32) .oge y (FloatOps.ofBits .f32 (IntOp.addi e k))) (IntOp.addi e k) e

/-- The search, from the highest exponent bit down. -/
def search (y : EReal) : BitVec 32 :=
  step y (step y (step y (step y (step y (step y (step y (step y 0#32 1073741824#32) 536870912#32) 268435456#32)
    134217728#32) 67108864#32) 33554432#32) 16777216#32) 8388608#32

/-- The kernel's scale of a group whose greatest magnitude over 448 is `y`. -/
def kScale (y : EReal) : EReal :=
  FloatOps.ofBits (F := Ideal) .f32 (Scalar.select (IntOp.cmpi .ne (search y) 0#32) (IntOp.addi (search y) 8388608#32) 1065353216#32)

/-- The kernel's inverse scale of such a group. -/
def kInv (y : EReal) : EReal :=
  FloatOps.ofBits (F := Ideal) .f32 (Scalar.select (IntOp.cmpi .ne (search y) 0#32) (IntOp.subi 2122317824#32 (search y)) 1065353216#32)

theorem step_word (y : EReal) (n k : ℕ) (hk : 0 < k) (h : n + 2 * k ≤ 256) (h1 : pow n ≤ y) (h2 : y < pow (n + 2 * k)) :
    ∃ n', n' + k ≤ 256 ∧ pow n' ≤ y ∧ y < pow (n' + k) ∧ step y (word n) (word k) = word n' := by
  have e : IntOp.addi (word n) (word k) = word (n + k) := word_add (by omega)
  have e' : FloatOps.ofBits (F := Ideal) .f32 (word (n + k)) = pow (n + k) := ofBits_word (by omega)
  unfold step
  rw [e, e']
  show ∃ n', n' + k ≤ 256 ∧ pow n' ≤ y ∧ y < pow (n' + k) ∧
    Scalar.select (BitVec.ofBool (decide (pow (n + k) ≤ y))) (word (n + k)) (word n) = word n'
  by_cases hc : pow (n + k) ≤ y
  · refine ⟨n + k, by omega, hc, ?_, by simp [Scalar.select, hc]⟩
    rw [show n + k + k = n + 2 * k by ring]; exact h2
  · exact ⟨n, by omega, h1, not_le.mp hc, by simp [Scalar.select, hc]⟩

/-- The search ends at the exponent field of `y`. -/
theorem search_spec (y : EReal) (h0 : 0 ≤ y) (h1 : y < ⊤) :
    ∃ n, n + 1 ≤ 256 ∧ pow n ≤ y ∧ y < pow (n + 1) ∧ search y = word n := by
  have w0 : (0#32 : BitVec 32) = word 0 := rfl
  obtain ⟨n1, a1, b1, c1, e1⟩ := step_word y 0 128 (by norm_num) (by norm_num) (by simpa [pow] using h0)
    (by simpa [pow] using h1)
  obtain ⟨n2, a2, b2, c2, e2⟩ := step_word y n1 64 (by norm_num) (by omega) b1 c1
  obtain ⟨n3, a3, b3, c3, e3⟩ := step_word y n2 32 (by norm_num) (by omega) b2 c2
  obtain ⟨n4, a4, b4, c4, e4⟩ := step_word y n3 16 (by norm_num) (by omega) b3 c3
  obtain ⟨n5, a5, b5, c5, e5⟩ := step_word y n4 8 (by norm_num) (by omega) b4 c4
  obtain ⟨n6, a6, b6, c6, e6⟩ := step_word y n5 4 (by norm_num) (by omega) b5 c5
  obtain ⟨n7, a7, b7, c7, e7⟩ := step_word y n6 2 (by norm_num) (by omega) b6 c6
  obtain ⟨n8, a8, b8, c8, e8⟩ := step_word y n7 1 (by norm_num) (by omega) b7 c7
  refine ⟨n8, a8, b8, c8, ?_⟩
  rw [← e8, ← e7, ← e6, ← e5, ← e4, ← e3, ← e2, ← e1]
  rfl

/-- The reference's exponent of such a group. -/
def rExp (y l : EReal) : EReal :=
  Scalar.select (FloatOps.cmpf (F := Ideal) (φ := .f32) .olt y (Ideal.ofBits .f32 0x00800000#32)) 0
    (Ideal.liftRound Int.floor (Ideal.div (Ideal.log y) l) + 1)

theorem exp2_coe (r : ℝ) : Ideal.exp2 (r : EReal) = (((2 : ℝ) ^ r : ℝ) : EReal) := rfl

/-- The two scales and the two inverses agree, for every `y` from zero up to `2 ^ 126`. -/
theorem scales (r : ℝ) (h0 : 0 ≤ r) (h1 : r < 2 ^ (126 : ℤ)) :
    kScale r = Ideal.exp2 (rExp r (Real.log 2 : ℝ)) ∧ kInv r = Ideal.exp2 (0 - rExp r (Real.log 2 : ℝ)) := by
  obtain ⟨n, hn, hlo, hhi, hs⟩ := search_spec (r : EReal) (by exact_mod_cast h0) (EReal.coe_lt_top r)
  have one : (1065353216#32 : BitVec 32) = word 127 := rfl
  have unit : (8388608#32 : BitVec 32) = word 1 := rfl
  have top : (2122317824#32 : BitVec 32) = word 253 := rfl
  have tiny : Ideal.ofBits .f32 0x00800000#32 = (((2 : ℝ) ^ (-126 : ℤ) : ℝ) : EReal) := by
    rw [show (0x00800000#32 : BitVec 32) = word 1 from rfl, ofBits_word (by norm_num)]
    norm_num [pow]
  have hp127 : pow 127 = 1 := by norm_num [pow]
  rcases Nat.eq_zero_or_pos n with hz | hpos
  · subst hz
    have hlt : (r : EReal) < (((2 : ℝ) ^ (-126 : ℤ) : ℝ) : EReal) := by
      simpa [pow] using hhi
    have hr : rExp r (Real.log 2 : ℝ) = 0 := by
      unfold rExp
      rw [tiny]
      show Scalar.select (BitVec.ofBool (decide _)) _ _ = _
      rw [decide_eq_true hlt]
      rfl
    have hw : word 0 = 0#32 := rfl
    constructor
    · rw [hr]; unfold kScale
      rw [hs, hw]
      show Ideal.ofBits .f32 1065353216#32 = Ideal.exp2 ((0 : ℝ) : EReal)
      rw [one, ofBits_word (by norm_num), hp127, exp2_coe, Real.rpow_zero]
      rfl
    · rw [hr]; unfold kInv
      rw [hs, hw]
      show Ideal.ofBits .f32 1065353216#32 = Ideal.exp2 (0 - 0)
      rw [one, ofBits_word (by norm_num), hp127, sub_zero]
      show _ = Ideal.exp2 ((0 : ℝ) : EReal)
      rw [exp2_coe, Real.rpow_zero]
      rfl
  · have hn255 : n < 255 := by
      by_contra hc
      have : pow n = ⊤ := by simp [pow, hc]; omega
      rw [this] at hlo
      exact absurd (lt_of_le_of_lt hlo (EReal.coe_lt_top r)) (lt_irrefl _)
    have hlo' : (2 : ℝ) ^ ((n : ℤ) - 127) ≤ r := by
      have : pow n = (((2 : ℝ) ^ ((n : ℤ) - 127) : ℝ) : EReal) := by simp [pow, hn255]; omega
      rw [this] at hlo; exact_mod_cast hlo
    have hn252 : n ≤ 252 := by
      by_contra hc
      have : (2 : ℝ) ^ (126 : ℤ) ≤ (2 : ℝ) ^ ((n : ℤ) - 127) := zpow_le_zpow_right₀ (by norm_num) (by omega)
      linarith
    have hpow : ∀ k : ℕ, 0 < k → k < 255 → pow k = (((2 : ℝ) ^ ((k : ℤ) - 127) : ℝ) : EReal) := by
      intro k hk hk'; simp [pow, hk']; omega
    have hhi' : r < (2 : ℝ) ^ ((n : ℤ) - 126) := by
      rw [hpow (n + 1) (by omega) (by omega)] at hhi
      have : r < (2 : ℝ) ^ (((n + 1 : ℕ) : ℤ) - 127) := by exact_mod_cast hhi
      rwa [show (((n + 1 : ℕ) : ℤ) - 127) = (n : ℤ) - 126 by push_cast; ring] at this
    have hr0 : 0 < r := lt_of_lt_of_le (by positivity) hlo'
    have hge : (2 : ℝ) ^ (-126 : ℤ) ≤ r :=
      le_trans (zpow_le_zpow_right₀ (by norm_num) (by omega)) hlo'
    have hl2 : Real.log 2 ≠ 0 := by positivity
    have hfl : ⌊Real.log r * (Real.log 2)⁻¹⌋ = (n : ℤ) - 127 := by
      have hl : 0 < Real.log 2 := Real.log_pos (by norm_num)
      rw [← div_eq_mul_inv, Int.floor_eq_iff]
      constructor
      · rw [le_div_iff₀ hl, ← Real.log_zpow]
        exact Real.log_le_log (by positivity) hlo'
      · have e : ((((n : ℤ) - 127 : ℤ) : ℝ) + 1) = (((n : ℤ) - 126 : ℤ) : ℝ) := by push_cast; ring
        rw [e, div_lt_iff₀ hl, ← Real.log_zpow]
        exact Real.log_lt_log hr0 hhi'
    have hr : rExp r (Real.log 2 : ℝ) = (((n : ℤ) - 126 : ℤ) : ℝ) := by
      unfold rExp
      rw [tiny]
      have hc : ¬ ((r : EReal) < (((2 : ℝ) ^ (-126 : ℤ) : ℝ) : EReal)) := by
        rw [not_lt]; exact_mod_cast hge
      show Scalar.select (BitVec.ofBool (decide _)) _ _ = _
      have hlog : Ideal.log (r : EReal) = (Real.log r : ℝ) := by
        show (if r ≤ 0 then ⊥ else (Real.log r : EReal)) = _
        rw [if_neg (not_le.mpr hr0)]
      have hdiv : Ideal.div (Real.log r : ℝ) (Real.log 2 : ℝ) = ((Real.log r * (Real.log 2)⁻¹ : ℝ) : EReal) := by
        unfold Ideal.div
        rw [if_neg (by exact_mod_cast hl2), ← EReal.coe_inv, ← EReal.coe_mul]
      rw [hlog, hdiv]
      show Scalar.select (BitVec.ofBool (decide _)) _ (((⌊Real.log r * (Real.log 2)⁻¹⌋ : ℝ) : EReal) + 1) = _
      rw [hfl]
      simp only [Scalar.select, hc, decide_false, BitVec.ofBool_false]
      rw [if_neg (by decide), show (1 : EReal) = ((1 : ℝ) : EReal) from rfl, ← EReal.coe_add]
      congr 1; push_cast; ring
    have hsel : ∀ a b : BitVec 32, Scalar.select (IntOp.cmpi .ne (word n) 0#32) a b = a := by
      intro a b
      have := word_ne_zero hpos (by omega)
      have hb : (word n != 0#32) = true := by simpa [bne_iff_ne] using this
      show (if BitVec.ofBool (word n != 0#32) = 1#1 then a else b) = a
      rw [hb]
      rfl
    constructor
    · unfold kScale
      rw [hr, hs, hsel, unit]
      show Ideal.ofBits .f32 (word n + word 1) = ((Real.rpow 2 _ : ℝ) : EReal)
      rw [word_add (by omega), ofBits_word (by omega), hpow (n + 1) (by omega) (by omega)]
      show _ = (((2 : ℝ) ^ ((((n : ℤ) - 126 : ℤ) : ℝ)) : ℝ) : EReal)
      rw [Real.rpow_intCast]
      congr 2; push_cast; ring
    · unfold kInv
      rw [hr, hs, hsel, top]
      show Ideal.ofBits .f32 (word 253 - word n) = Ideal.exp2 (((0 : ℝ) : EReal) - _)
      rw [word_sub (by omega) (by norm_num), ofBits_word (by omega), hpow (253 - n) (by omega) (by omega), ← EReal.coe_sub]
      show _ = (((2 : ℝ) ^ ((0 : ℝ) - (((n : ℤ) - 126 : ℤ) : ℝ)) : ℝ) : EReal)
      rw [show ((0 : ℝ) - (((n : ℤ) - 126 : ℤ) : ℝ)) = ((126 - (n : ℤ) : ℤ) : ℝ) by push_cast; ring, Real.rpow_intCast]
      congr 2
      have : ((253 - n : ℕ) : ℤ) = 253 - (n : ℤ) := by omega
      rw [this]; ring

end Cert.Exponent

end
-- ==== Proof.Rows.lean ====
/- One row, over the extended reals: the codes and the scale of a list of values, and one group's gated product of a row,
   as the kernel computes them and as the reference does. -/
module

public import proofs.«01_k».proof.Proof.Exponent
public import Idealize.ShloMosaic.Lib.Pointwise

@[expose] public section

set_option maxRecDepth 16384

noncomputable section

namespace Cert.Rows

open Idealize.ShloMosaic Cert.Exponent

/-- A maximum along the second of two axes, at an index. -/
theorem max_r2 {φ : FTy} {m n : ℕ} (h : (⟨2, ![m, n]⟩ : Shape).Reduces [1] ⟨1, ![m]⟩) (x : FVec Ideal ⟨2, ![m, n]⟩ φ)
    (acc : BitVec φ.bits) (hφ) (hacc) (j : (⟨1, ![m]⟩ : Shape).Idx) :
    multiReduction .maximumf [1] ⟨1, ![m]⟩ x acc h hφ hacc j =
      Finset.univ.fold max (Ideal.ofBits φ acc) (fun k : Fin n => x (ix2 (j 0) k)) := by
  rw [multiReduction_maximumf_eq_fold, h.fold_fiber_r2_a1]
  rfl

/-- A maximum along the last of three axes, at an index. -/
theorem max_r3 {φ : FTy} {m l n : ℕ} (h : (⟨3, ![m, l, n]⟩ : Shape).Reduces [2] ⟨2, ![m, l]⟩) (x : FVec Ideal ⟨3, ![m, l, n]⟩ φ)
    (acc : BitVec φ.bits) (hφ) (hacc) (j : (⟨2, ![m, l]⟩ : Shape).Idx) :
    multiReduction .maximumf [2] ⟨2, ![m, l]⟩ x acc h hφ hacc j =
      Finset.univ.fold max (Ideal.ofBits φ acc) (fun k : Fin n => x (ix3 (j 0) (j 1) k)) := by
  rw [multiReduction_maximumf_eq_fold, h.fold_fiber_r3_a2]
  rfl

/-- The magnitude of a value. -/
def mag (v : EReal) : EReal := max v (-v)

/-- The greatest magnitude of a list of values, over 448. -/
def top {n : ℕ} (f : Fin n → EReal) : EReal :=
  Finset.univ.fold max ⊥ (fun k => mag (f k)) * Ideal.ofBits .f32 0x3B124925#32

/-- A value brought into the range of the eight-bit format. -/
def clip (v : EReal) : EReal := min (Ideal.ofBits .f32 0x43E00000#32) (max (Ideal.ofBits .f32 0xC3E00000#32) v)

/-- The kernel's code of entry `k` of a list of values. -/
def kCode {n : ℕ} (f : Fin n → EReal) (k : Fin n) : EReal := clip (f k * kInv (top f))

/-- The reference's exponent of a list of values. -/
def rTop {n : ℕ} (f : Fin n → EReal) : EReal := rExp (top f) (Real.log 2 : ℝ)

/-- The reference's code of entry `k` of a list of values. -/
def rCode {n : ℕ} (f : Fin n → EReal) (k : Fin n) : EReal := clip (f k * Ideal.exp2 (0 - rTop f))

/-- A row of codes against a column of weights, with the row's scale and the column's. -/
def dot {n : ℕ} (c w : Fin n → EReal) (xs s : EReal) : EReal := (∑ k, c k * w k) * xs * s

/-- The real `√(2/π)` of the Gaussian error unit's tanh form, and its cubic coefficient. -/
def cst : ℝ := Real.sqrt (2 * Real.pi⁻¹)
def cub : ℝ := 8943 / 200000

/-- The gated product as the kernel arranges it. -/
def kGated (g u : EReal) : EReal :=
  Ideal.ofBits .f32 0x3F000000#32 * g * (1 + Ideal.tanh (g * ((cst : ℝ) + ((cst * cub : ℝ) : EReal) * (g * g)))) * u

/-- The gated product as the reference arranges it. -/
def rGated (g u : EReal) : EReal :=
  g * (Ideal.ofBits .f32 0x3F000000#32 * (1 + Ideal.tanh ((cst : ℝ) * (g + (cub : ℝ) * (g * (g * g)))))) * u

/-- One group of one row, before quantising, in the kernel. -/
def kGroup {n l : ℕ} (x : Fin n → EReal) (w0 w1 : Fin n → Fin l → EReal) (s0 s1 : Fin l → EReal) (c : Fin l) : EReal :=
  kGated (dot (kCode x) (fun k => w0 k c) (kScale (top x)) (s0 c)) (dot (kCode x) (fun k => w1 k c) (kScale (top x)) (s1 c))

/-- One group of one row, before quantising, in the reference. -/
def rGroup {n l : ℕ} (x : Fin n → EReal) (w0 w1 : Fin n → Fin l → EReal) (s0 s1 : Fin l → EReal) (c : Fin l) : EReal :=
  rGated (dot (rCode x) (fun k => w0 k c) (Ideal.exp2 (rTop x)) (s0 c)) (dot (rCode x) (fun k => w1 k c) (Ideal.exp2 (rTop x)) (s1 c))

/-! ## The constants -/

theorem negInf32 : Ideal.ofBits .f32 0xFF800000#32 = ⊥ := by
  simp [Ideal.ofBits, Ideal.ieee]

theorem negInf16 : Ideal.ofBits .bf16 0xFF80#16 = ⊥ := by
  simp [Ideal.ofBits, Ideal.ieee]

theorem lit_half : Ideal.ofBits .f32 0x3F000000#32 = (((1 : ℝ) / 2 : ℝ) : EReal) := by
  simp [Ideal.ofBits, Ideal.ieee, -EReal.coe_mul]; norm_num

theorem lit_448 : Ideal.ofBits .f32 0x43E00000#32 = ((448 : ℝ) : EReal) := by
  simp [Ideal.ofBits, Ideal.ieee, -EReal.coe_mul]; norm_num

theorem lit_neg448 : Ideal.ofBits .f32 0xC3E00000#32 = ((-448 : ℝ) : EReal) := by
  simp [Ideal.ofBits, Ideal.ieee, -EReal.coe_mul, -EReal.coe_neg]; norm_num

theorem lit_q : Ideal.ofBits .f32 0x3B124925#32 = (((9586981 : ℝ) / 4294967296 : ℝ) : EReal) := by
  simp [Ideal.ofBits, Ideal.ieee, -EReal.coe_mul]; norm_num

theorem lit_tiny : Ideal.ofBits .f32 0x00000000#32 = 0 := by
  simp [Ideal.ofBits, Ideal.ieee]

theorem lit_65536 : Ideal.ofBits .f32 0x47800000#32 = ((65536 : ℝ) : EReal) := by
  simp [Ideal.ofBits, Ideal.ieee, -EReal.coe_mul]; norm_num

theorem lit_x : Ideal.ofBits .bf16 0x4D80#16 = ((268435456 : ℝ) : EReal) := by
  simp [Ideal.ofBits, Ideal.ieee, -EReal.coe_mul]; norm_num

/-! ## The greatest magnitude along the last axis -/

theorem top_r2 {φ : FTy} {m n : ℕ} (h : (⟨2, ![m, n]⟩ : Shape).Reduces [1] ⟨1, ![m]⟩) (x : FVec Ideal ⟨2, ![m, n]⟩ φ)
    (acc : BitVec φ.bits) (hφ) (hacc) (hb : Ideal.ofBits φ acc = ⊥) (i : Fin m) :
    multiReduction .maximumf [1] ⟨1, ![m]⟩ (absf x) acc h hφ hacc (ix1 i) * Ideal.ofBits .f32 0x3B124925#32 =
      top (fun k : Fin n => x (ix2 i k)) := by
  rw [max_r2, hb]
  rfl

theorem top_r3 {φ : FTy} {m l n : ℕ} (h : (⟨3, ![m, l, n]⟩ : Shape).Reduces [2] ⟨2, ![m, l]⟩) (x : FVec Ideal ⟨3, ![m, l, n]⟩ φ)
    (acc : BitVec φ.bits) (hφ) (hacc) (hb : Ideal.ofBits φ acc = ⊥) (i : Fin m) (g : Fin l) :
    multiReduction .maximumf [2] ⟨2, ![m, l]⟩ (absf x) acc h hφ hacc (ix2 i g) * Ideal.ofBits .f32 0x3B124925#32 =
      top (fun k : Fin n => x (ix3 i g k)) := by
  rw [max_r3, hb]
  rfl

/-! ## Values of bounded magnitude -/

/-- `v` is a real number of magnitude at most `B`. -/
def Bd (B : ℝ) (v : EReal) : Prop := ∃ r : ℝ, v = r ∧ |r| ≤ B

theorem Bd.mul {A B : ℝ} {u v : EReal} (hu : Bd A u) (hv : Bd B v) : Bd (A * B) (u * v) := by
  obtain ⟨a, rfl, ha⟩ := hu
  obtain ⟨b, rfl, hb⟩ := hv
  refine ⟨a * b, (EReal.coe_mul a b).symm, ?_⟩
  rw [abs_mul]
  exact mul_le_mul ha hb (abs_nonneg b) (le_trans (abs_nonneg a) ha)

theorem Bd.mono {A B : ℝ} {v : EReal} (h : Bd A v) (hAB : A ≤ B) : Bd B v := by
  obtain ⟨r, e, h⟩ := h
  exact ⟨r, e, le_trans h hAB⟩

theorem Bd.sum {n : ℕ} {B : ℝ} {f : Fin n → EReal} (h : ∀ k, Bd B (f k)) : Bd (n * B) (∑ k, f k) := by
  choose g hg hb using h
  refine ⟨∑ k, g k, ?_, ?_⟩
  · rw [Finset.sum_congr rfl fun k _ => hg k]
    exact (map_sum (⟨⟨fun r : ℝ => (r : EReal), rfl⟩, EReal.coe_add⟩ : ℝ →+ EReal) g Finset.univ).symm
  · refine le_trans (Finset.abs_sum_le_sum_abs g Finset.univ) ?_
    refine le_trans (Finset.sum_le_sum fun k _ => hb k) ?_
    simp

/-- A value of magnitude at most `B`, as the comparison with its magnitude states it. -/
theorem Bd.of_mag {B : ℝ} {v : EReal} (h : mag v ≤ (B : EReal)) : Bd B v := by
  have h1 : v ≤ B := le_trans (le_max_left _ _) h
  have h2 : -v ≤ B := le_trans (le_max_right _ _) h
  induction v with
  | bot => simp at h2
  | top => simp at h1
  | coe r =>
    refine ⟨r, rfl, abs_le.mpr ⟨?_, by exact_mod_cast h1⟩⟩
    have : -r ≤ B := by exact_mod_cast h2
    linarith

theorem mag_coe (r : ℝ) : mag (r : EReal) = ((|r| : ℝ) : EReal) := by
  unfold mag
  rw [← EReal.coe_neg]
  exact (EReal.coe_strictMono.monotone.map_max (a := r) (b := -r)).symm

/-- A clipped value is a real of magnitude at most 448, whatever it was. -/
theorem clip_bd (v : EReal) : Bd 448 (clip v) := by
  unfold clip
  rw [lit_448, lit_neg448]
  have h1 : min ((448 : ℝ) : EReal) (max ((-448 : ℝ) : EReal) v) ≤ ((448 : ℝ) : EReal) := min_le_left _ _
  have h2 : ((-448 : ℝ) : EReal) ≤ min ((448 : ℝ) : EReal) (max ((-448 : ℝ) : EReal) v) :=
    le_min (by exact_mod_cast (by norm_num : (-448 : ℝ) ≤ 448)) (le_max_left _ _)
  generalize min ((448 : ℝ) : EReal) (max ((-448 : ℝ) : EReal) v) = w at h1 h2
  induction w with
  | bot => simp at h2
  | top => simp at h1
  | coe r => exact ⟨r, rfl, abs_le.mpr ⟨by exact_mod_cast h2, by exact_mod_cast h1⟩⟩

/-- The greatest magnitude of a list of bounded values, over 448. -/
theorem top_bd {n : ℕ} (hn : 0 < n) {B : ℝ} {f : Fin n → EReal} (h : ∀ k, Bd B (f k)) :
    ∃ r : ℝ, top f = r ∧ 0 ≤ r ∧ r ≤ B / 256 := by
  choose g hg hb using h
  have hm : ∀ k, mag (f k) = ((|g k| : ℝ) : EReal) := fun k => by rw [hg k, mag_coe]
  have h1 : Finset.univ.fold max ⊥ (fun k => mag (f k)) ≤ (B : EReal) := by
    rw [Finset.fold_max_le]
    exact ⟨bot_le, fun k _ => by rw [hm k]; exact_mod_cast hb k⟩
  have h0 : ((0 : ℝ) : EReal) ≤ Finset.univ.fold max ⊥ (fun k => mag (f k)) := by
    rw [Finset.le_fold_max]
    exact Or.inr ⟨⟨0, hn⟩, Finset.mem_univ _, by rw [hm]; exact_mod_cast abs_nonneg _⟩
  unfold top
  rw [lit_q]
  generalize Finset.univ.fold max ⊥ (fun k => mag (f k)) = w at h0 h1
  induction w with
  | bot => simp at h0
  | top => simp at h1
  | coe r =>
    have a : 0 ≤ r := by exact_mod_cast h0
    have b : r ≤ B := by exact_mod_cast h1
    exact ⟨r * (9586981 / 4294967296), (EReal.coe_mul _ _).symm, by positivity, by nlinarith⟩

/-- A power-of-two scale is at most twice the value that it covers, or one. -/
theorem scale_bd {r : ℝ} (h0 : 0 ≤ r) (h1 : r < 2 ^ (126 : ℤ)) : Bd (2 * r + 1) (kScale r) := by
  obtain ⟨n, hn, hlo, -, hs⟩ := search_spec (r : EReal) (by exact_mod_cast h0) (EReal.coe_lt_top r)
  unfold kScale
  rw [hs]
  rcases Nat.eq_zero_or_pos n with hz | hpos
  · subst hz
    refine ⟨1, ?_, by rw [abs_one]; linarith⟩
    show Ideal.ofBits .f32 (word 127) = _
    rw [ofBits_word (by norm_num)]
    norm_num [pow]
  · have hp : ∀ k : ℕ, 0 < k → k < 255 → pow k = (((2 : ℝ) ^ ((k : ℤ) - 127) : ℝ) : EReal) := by
      intro k hk hk'; simp [pow, hk']; omega
    have hn255 : n < 255 := by
      by_contra hc
      have : pow n = ⊤ := by simp [pow, hc]; omega
      rw [this] at hlo
      exact absurd (lt_of_le_of_lt hlo (EReal.coe_lt_top r)) (lt_irrefl _)
    rw [hp n hpos hn255] at hlo
    have hlo' : (2 : ℝ) ^ ((n : ℤ) - 127) ≤ r := by exact_mod_cast hlo
    have hn252 : n ≤ 252 := by
      by_contra hc
      have : (2 : ℝ) ^ (126 : ℤ) ≤ (2 : ℝ) ^ ((n : ℤ) - 127) := zpow_le_zpow_right₀ (by norm_num) (by omega)
      linarith
    have hb : (word n != 0#32) = true := by simpa [bne_iff_ne] using word_ne_zero hpos (by omega)
    have hsel : ∀ a b : BitVec 32, Scalar.select (IntOp.cmpi .ne (word n) 0#32) a b = a := by
      intro a b
      show (if BitVec.ofBool (word n != 0#32) = 1#1 then a else b) = a
      rw [hb]
      rfl
    have unit : (8388608#32 : BitVec 32) = word 1 := rfl
    rw [hsel, unit, show IntOp.addi (word n) (word 1) = word (n + 1) from word_add (n := n) (k := 1) (by omega)]
    show Bd _ (Ideal.ofBits .f32 (word (n + 1)))
    rw [ofBits_word (by omega), hp (n + 1) (by omega) (by omega)]
    refine ⟨_, rfl, ?_⟩
    have e : (((n + 1 : ℕ) : ℤ) - 127) = ((n : ℤ) - 127) + 1 := by push_cast; ring
    rw [e, zpow_add_one₀ (by norm_num), abs_of_pos (by positivity)]
    linarith

/-- The two computations of codes and scale agree on bounded values. -/
theorem codes_eq {n : ℕ} (hn : 0 < n) {B : ℝ} (hB : B / 256 < 2 ^ (126 : ℤ)) {f : Fin n → EReal} (h : ∀ k, Bd B (f k)) :
    kCode f = rCode f ∧ kScale (top f) = Ideal.exp2 (rTop f) ∧ Bd (2 * (B / 256) + 1) (kScale (top f)) := by
  obtain ⟨r, e, r0, r1⟩ := top_bd hn h
  have hs := scales r r0 (lt_of_le_of_lt r1 hB)
  refine ⟨?_, ?_, ?_⟩
  · funext k
    unfold kCode rCode rTop
    rw [e, hs.2]
  · unfold rTop
    rw [e, hs.1]
  · rw [e]
    exact (scale_bd r0 (lt_of_le_of_lt r1 hB)).mono (by linarith)

/-- The two arrangements of the gated product agree where the gate is real. -/
theorem gated_eq {A : ℝ} {g : EReal} (hg : Bd A g) (u : EReal) : kGated g u = rGated g u := by
  obtain ⟨a, rfl, -⟩ := hg
  unfold kGated rGated
  rw [lit_half]
  congr 1
  have e1 : (a : EReal) * ((cst : ℝ) + ((cst * cub : ℝ) : EReal) * ((a : EReal) * a)) =
      ((a * (cst + cst * cub * (a * a)) : ℝ) : EReal) := by
    rw [← EReal.coe_mul, ← EReal.coe_mul, ← EReal.coe_add, ← EReal.coe_mul]
  have e2 : ((cst : ℝ) : EReal) * ((a : EReal) + (cub : ℝ) * ((a : EReal) * ((a : EReal) * a))) =
      ((cst * (a + cub * (a * (a * a))) : ℝ) : EReal) := by
    rw [← EReal.coe_mul, ← EReal.coe_mul, ← EReal.coe_mul, ← EReal.coe_add, ← EReal.coe_mul]
  rw [e1, e2, show a * (cst + cst * cub * (a * a)) = cst * (a + cub * (a * (a * a))) by ring]
  rw [mul_comm ((1 / 2 : ℝ) : EReal) (a : EReal), mul_assoc]

theorem gated_bd {A : ℝ} {g u : EReal} (hg : Bd A g) (hu : Bd A u) : Bd (A * A) (kGated g u) := by
  unfold kGated
  refine Bd.mul ?_ hu
  obtain ⟨a, rfl, ha⟩ := hg
  rw [lit_half, ← EReal.coe_mul, ← EReal.coe_mul, ← EReal.coe_mul, ← EReal.coe_add, ← EReal.coe_mul, Ideal.tanh_coe,
    ← EReal.coe_one, ← EReal.coe_add, ← EReal.coe_mul]
  refine ⟨_, rfl, ?_⟩
  set s := Real.tanh (a * (cst + cst * cub * (a * a)))
  have hs : |s| < 1 := Real.abs_tanh_lt_one _
  have : |1 + s| ≤ 2 := by
    rw [abs_lt] at hs
    exact abs_le.mpr ⟨by linarith, by linarith⟩
  rw [abs_mul, abs_mul, show |(1 / 2 : ℝ)| = 1 / 2 by norm_num [abs_of_pos]]
  nlinarith [abs_nonneg a, abs_nonneg (1 + s)]

/-- One group of one row: for `x` up to `2 ^ 28`, weights up to 448 and weight scales up to `2 ^ 16` the kernel and the
    reference leave the same values, and values small enough to quantise. -/
theorem group_eq {l : ℕ} {x : Fin 2176 → EReal} {w0 w1 : Fin 2176 → Fin l → EReal} {s0 s1 : Fin l → EReal}
    (hx : ∀ k, Bd 268435456 (x k)) (h0 : ∀ k c, Bd 448 (w0 k c)) (h1 : ∀ k c, Bd 448 (w1 k c))
    (hs0 : ∀ c, Bd 65536 (s0 c)) (hs1 : ∀ c, Bd 65536 (s1 c)) :
    kGroup x w0 w1 s0 s1 = rGroup x w0 w1 s0 s1 ∧ ∀ c, Bd (2 ^ 132) (kGroup x w0 w1 s0 s1 c) := by
  obtain ⟨hc, hs, hb⟩ := codes_eq (by norm_num) (B := 268435456) (by norm_num) hx
  have hdot : ∀ (w : Fin 2176 → EReal) (s : EReal), (∀ k, Bd 448 (w k)) → Bd 65536 s →
      Bd (2 ^ 66) (dot (kCode x) w (kScale (top x)) s) := by
    intro w s hw hs'
    have hk : ∀ k, Bd (448 * 448) (kCode x k * w k) := fun k => (clip_bd _).mul (hw k)
    exact (((Bd.sum hk).mul hb).mul hs').mono (by norm_num)
  have hg := fun c => hdot (fun k => w0 k c) (s0 c) (fun k => h0 k c) (hs0 c)
  have hu := fun c => hdot (fun k => w1 k c) (s1 c) (fun k => h1 k c) (hs1 c)
  constructor
  · funext c
    unfold rGroup
    rw [← hc, ← hs]
    exact gated_eq (hg c) _
  · exact fun c => (gated_bd (hg c) (hu c)).mono (by norm_num)

end Cert.Rows
-- ==== Proof.KernelRows.lean ====
/- The kernel's tiles read at an index, over the extended reals: each entry is the row arithmetic of `Rows.lean`. -/
module

public import proofs.«01_k».proof.Proof.Tile
public import proofs.«01_k».proof.Proof.Rows

@[expose] public section

set_option maxRecDepth 16384

noncomputable section

namespace Cert.KernelIdeal.Value

open Cert.KernelIdeal Cert.KernelIdeal.Gen Idealize.ShloMosaic Idealize.ShloMosaic.TcCoe Cert.Exponent Cert.Rows

theorem stepV_apply (y : FVec Ideal S512x1 .f32) (e : IVec S512x1 32) (k : BitVec 32) (j : S512x1.Idx) :
    stepV y e k j = step (y j) (e j) k := rfl

/-- The vector search, entry by entry. -/
theorem searchV_apply (y : FVec Ideal S512x1 .f32) (j : S512x1.Idx) : searchV y j = search (y j) := by
  unfold searchV search
  rw [stepV_apply, stepV_apply, stepV_apply, stepV_apply, stepV_apply, stepV_apply, stepV_apply, stepV_apply]
  rw [show (broadcast S512x1 0#32 : IVec S512x1 32) j = 0#32 from rfl]

theorem scaleV_apply (y : FVec Ideal S512x1 .f32) (j : S512x1.Idx) : scaleV y j = kScale (y j) := by
  unfold scaleV kScale
  rw [← searchV_apply y j]
  generalize searchV y = e
  rfl

theorem invV_apply (y : FVec Ideal S512x1 .f32) (j : S512x1.Idx) : invV y j = kInv (y j) := by
  unfold invV kInv
  rw [← searchV_apply y j]
  generalize searchV y = e
  rfl

theorem named_c : Named.named (F := Ideal) Cert.KernelIdeal.κ "gelu_c" (φ := .f32) 0x3F4C422A#32 = ((cst : ℝ) : EReal) :=
  IdealRules.named_const.ideal_named_scalar _ _ _ _ rfl

theorem named_c3 :
    Named.named (F := Ideal) Cert.KernelIdeal.κ "gelu_c3" (φ := .f32) 0x3D122279#32 = ((cst * cub : ℝ) : EReal) :=
  IdealRules.named_const.ideal_named_scalar _ _ _ _ rfl

/-- A column of maxima over 448, at a row: f32. -/
theorem col32 (M : FVec Ideal S512 .f32) (r : Fin 512) :
    mulf (shapeCast S512x1 M shapeCasts_S512_S512x1) (broadcast S512x1 (Scalar.ofBits .f32 0x3B124925#32)) (ix2 r 0) =
      M (ix1 r) * Ideal.ofBits .f32 0x3B124925#32 := by
  pointwise

/-- A column of maxima over 448, at a row: bf16. -/
theorem col16 (M : FVec Ideal S512 .bf16) (r : Fin 512) :
    mulf (extf .f32 (shapeCast S512x1 M shapeCasts_S512_S512x1) bitsLt_bf16_f32)
      (broadcast S512x1 (Scalar.ofBits .f32 0x3B124925#32)) (ix2 r 0) = M (ix1 r) * Ideal.ofBits .f32 0x3B124925#32 := by
  pointwise

theorem tileMax_red (h : FVec Ideal S512x128 .f32) (hφ) (hacc) (r : Fin 512) :
    multiReduction .maximumf [1] S512 (absf h) 0xFF800000#32 reduces_S512x128_S512 hφ hacc (ix1 r) *
      Ideal.ofBits .f32 0x3B124925#32 = top (fun c => h (ix2 r c)) :=
  top_r2 (m := 512) (n := 128) reduces_S512x128_S512 h _ hφ hacc negInf32 r

theorem xMax_red (v : FVec Ideal S512x2176 .bf16) (hφ) (hacc) (r : Fin 512) :
    multiReduction .maximumf [1] S512 (absf v) 0xFF80#16 reduces_S512x2176_S512 hφ hacc (ix1 r) *
      Ideal.ofBits .f32 0x3B124925#32 = top (fun k => v (ix2 r k)) :=
  top_r2 (m := 512) (n := 2176) reduces_S512x2176_S512 v _ hφ hacc negInf16 r

theorem xBlock (v : Vec Ideal S512x2176 .bf16) : k0_pay2 v = v := by
  funext j
  unfold k0_pay2
  idx_vars j
  pointwise

/-- The greatest magnitude of a row of a tile, over 448. -/
theorem tileMax_apply (h : FVec Ideal S512x128 .f32) (r : Fin 512) :
    tileMax h (ix2 r 0) = top (fun c => h (ix2 r c)) :=
  (col32 _ r).trans (tileMax_red h _ _ r)

/-- The greatest magnitude of a row of a block of `x`, over 448. -/
theorem xMax_apply (v : Vec Ideal S512x2176 .bf16) (r : Fin 512) :
    k0_pay3 v (ix2 r 0) = top (fun k => v (ix2 r k)) := by
  unfold k0_pay3
  rw [xBlock]
  exact (col16 _ r).trans (xMax_red v _ _ r)

theorem xScale_apply (v : Vec Ideal S512x2176 .bf16) (r : Fin 512) :
    xScale v (ix2 r 0) = kScale (top (fun k => v (ix2 r k))) := by
  unfold xScale
  rw [scaleV_apply, xMax_apply]

theorem xCode_apply (v : Vec Ideal S512x2176 .bf16) (r : Fin 512) (k : Fin 2176) :
    xCode v (ix2 r k) = kCode (fun k => v (ix2 r k)) k := by
  unfold xCode kCode
  rw [← xMax_apply]
  generalize k0_pay3 v = y
  unfold k0_pay2 clip
  pointwise
  rw [invV_apply]

theorem tileScale_apply (h : FVec Ideal S512x128 .f32) (r : Fin 512) :
    tileScale h (ix2 r 0) = kScale (top (fun c => h (ix2 r c))) := by
  unfold tileScale
  rw [scaleV_apply, tileMax_apply]

theorem tileCode_apply (h : FVec Ideal S512x128 .f32) (r : Fin 512) (c : Fin 128) :
    tileCode h (ix2 r c) = kCode (fun c => h (ix2 r c)) c := by
  unfold tileCode kCode
  rw [← tileMax_apply]
  generalize tileMax h = y
  unfold clip
  pointwise
  rw [invV_apply]

/-- A tile's entry is the row arithmetic of the row's values, the group's weights and its scales. -/
theorem tile_apply (v : Vec Ideal S512x2176 .bf16) (w0 w1 : Vec Ideal S1x2176x128 .fp8e4m3) (s0 s1 : Vec Ideal S1x1x128 .f32)
    (r : Fin 512) (c : Fin 128) :
    tile (xScale v) (xCode v) w0 w1 s0 s1 (ix2 r c) = kGroup (fun k => v (ix2 r k)) (fun k c => w0 (ix3 0 k c))
      (fun k c => w1 (ix3 0 k c)) (fun c => s0 (ix3 0 0 c)) (fun c => s1 (ix3 0 0 c)) c := by
  unfold kGroup kGated dot
  rw [← xScale_apply]
  simp only [← xCode_apply]
  generalize xScale v = xs
  generalize xCode v = xc
  rw [← named_c, ← named_c3]
  unfold tile gated rescale prodV
  pointwise

end Cert.KernelIdeal.Value
-- ==== Proof.KernelArrays.lean ====
/- The kernel's four result arrays, each as one function of the arrays that its grid reads: the activations `X` (8192 rows
   of 2176), the gathered weights `W` (twenty planes of 2176 × 128: planes `2g` and `2g+1` are the two halves of group `g`)
   and their scales `S` (twenty rows of 128). A grid point leaves in its staging buffers the results of its own 512 rows
   (`left3` … `left6`), and the sixteen points' blocks tile the arrays (`final3` … `final6`). -/
module

public import proofs.«01_k».proof.Proof.Blocks
public import proofs.«01_k».proof.Proof.KernelRows
public import Idealize.ShloMosaic.Lib.Pipeline.ValueKit.Tiles
public import Idealize.ShloMosaic.Lib.Pipeline.ValueKit.Geometry

@[expose] public section

noncomputable section

namespace Cert.KernelIdeal.Value

open Cert.KernelIdeal Cert.KernelIdeal.Gen Cert.Rows Cert.Exponent
open Idealize.ShloMosaic Idealize.ShloMosaic.TcCoe Idealize.SL.Sem
open Idealize.ShloMosaic.Pipeline (Dat)

/-! ## The results of one row -/

/-- Group `g` of the gated row, from the row `x` of activations and the gathered weights and scales. -/
def gRow (x : Fin 2176 → EReal) (W : Vec Ideal S20x2176x128 .fp8e4m3) (S : Vec Ideal S20x1x128 .f32) (g : Fin 10) :
    Fin 128 → EReal :=
  kGroup x (fun k c => W (ix3 ⟨2 * g.val, by omega⟩ k c)) (fun k c => W (ix3 ⟨2 * g.val + 1, by omega⟩ k c))
    (fun c => S (ix3 ⟨2 * g.val, by omega⟩ 0 c)) (fun c => S (ix3 ⟨2 * g.val + 1, by omega⟩ 0 c))

/-- Entry `n` of the row of 1280 result codes: code `n % 128` of group `n / 128`. -/
def row3 (x : Fin 2176 → EReal) (W : Vec Ideal S20x2176x128 .fp8e4m3) (S : Vec Ideal S20x1x128 .f32) (n : Fin 1280) : EReal :=
  kCode (gRow x W S ⟨n.val / 128, by omega⟩) ⟨n.val % 128, by omega⟩

/-- Entry `g` of the row of ten result scales. -/
def row4 (x : Fin 2176 → EReal) (W : Vec Ideal S20x2176x128 .fp8e4m3) (S : Vec Ideal S20x1x128 .f32) (g : Fin 10) : EReal :=
  kScale (top (gRow x W S g))

/-! ## What a grid point leaves in its staging buffers -/

/-- One tile of the block: the loads of planes `2g`, `2g+1` of the weights and scales give row `r` its group `g`. -/
theorem tile_row (x0 : Vec Ideal S512x2176 .bf16) (x1 : Vec Ideal S20x2176x128 .fp8e4m3) (x2 : Vec Ideal S20x1x128 .f32)
    (g : Fin 10) (o p : Nat) (ho : o = 2 * g.val) (hp : p = 2 * g.val + 1)
    (h1 : ∀ a, (![o, 0, 0] : Fin 3 → Nat) a + S1x2176x128.size a ≤ S20x2176x128.size a)
    (h2 : ∀ a, (![p, 0, 0] : Fin 3 → Nat) a + S1x2176x128.size a ≤ S20x2176x128.size a)
    (h3 : ∀ a, (![o, 0, 0] : Fin 3 → Nat) a + S1x1x128.size a ≤ S20x1x128.size a)
    (h4 : ∀ a, (![p, 0, 0] : Fin 3 → Nat) a + S1x1x128.size a ≤ S20x1x128.size a) (r : Fin 512) (c : Fin 128) :
    tile (xScale (View.ld x0 r0_0)) (xCode (View.ld x0 r0_0))
      (View.ld x1 (Rect.unit (s := S20x2176x128) ![o, 0, 0] S1x2176x128.size h1))
      (View.ld x1 (Rect.unit (s := S20x2176x128) ![p, 0, 0] S1x2176x128.size h2))
      (View.ld x2 (Rect.unit (s := S20x1x128) ![o, 0, 0] S1x1x128.size h3))
      (View.ld x2 (Rect.unit (s := S20x1x128) ![p, 0, 0] S1x1x128.size h4)) (ix2 r c)
      = gRow (fun k => x0 (ix2 r k)) x1 x2 g c := by
  subst ho hp
  have hz : (![0, 0] : Fin 2 → Nat) = fun _ => 0 := funext fun a => by fin_cases a <;> rfl
  have e0 : View.ld x0 r0_0 = x0 := View.ld_unit_zero hz _ x0
  have e1 : ∀ k c, View.ld x1 (Rect.unit (s := S20x2176x128) ![2 * g.val, 0, 0] S1x2176x128.size h1) (ix3 0 k c)
      = x1 (ix3 ⟨2 * g.val, by omega⟩ k c) := fun k c =>
    View.ld_unit_apply_of x1 _ _ h1 _ _ fun a => by
      match a with
      | ⟨0, _⟩ => rfl
      | ⟨1, _⟩ => exact (Nat.zero_add _).symm
      | ⟨2, _⟩ => exact (Nat.zero_add _).symm
  have e2 : ∀ k c, View.ld x1 (Rect.unit (s := S20x2176x128) ![2 * g.val + 1, 0, 0] S1x2176x128.size h2) (ix3 0 k c)
      = x1 (ix3 ⟨2 * g.val + 1, by omega⟩ k c) := fun k c =>
    View.ld_unit_apply_of x1 _ _ h2 _ _ fun a => by
      match a with
      | ⟨0, _⟩ => rfl
      | ⟨1, _⟩ => exact (Nat.zero_add _).symm
      | ⟨2, _⟩ => exact (Nat.zero_add _).symm
  have e3 : ∀ c, View.ld x2 (Rect.unit (s := S20x1x128) ![2 * g.val, 0, 0] S1x1x128.size h3) (ix3 0 0 c)
      = x2 (ix3 ⟨2 * g.val, by omega⟩ 0 c) := fun c =>
    View.ld_unit_apply_of x2 _ _ h3 _ _ fun a => by
      match a with
      | ⟨0, _⟩ => rfl
      | ⟨1, _⟩ => rfl
      | ⟨2, _⟩ => exact (Nat.zero_add _).symm
  have e4 : ∀ c, View.ld x2 (Rect.unit (s := S20x1x128) ![2 * g.val + 1, 0, 0] S1x1x128.size h4) (ix3 0 0 c)
      = x2 (ix3 ⟨2 * g.val + 1, by omega⟩ 0 c) := fun c =>
    View.ld_unit_apply_of x2 _ _ h4 _ _ fun a => by
      match a with
      | ⟨0, _⟩ => rfl
      | ⟨1, _⟩ => rfl
      | ⟨2, _⟩ => exact (Nat.zero_add _).symm
  rw [e0]
  refine (tile_apply x0 _ _ _ _ r c).trans ?_
  simp only [e1, e2, e3, e4]
  rfl

/-- The store of a tile's codes, at the column offset `q = 128·g`, holds the row results there. -/
theorem codes_at (h : Vec Ideal S512x128 .f32) (x0 : Vec Ideal S512x2176 .bf16) (x1 : Vec Ideal S20x2176x128 .fp8e4m3)
    (x2 : Vec Ideal S20x1x128 .f32) (g : Fin 10) (q : Nat) (hq : q = 128 * g.val)
    (ht : ∀ r c, h (ix2 r c) = gRow (fun k => x0 (ix2 r k)) x1 x2 g c) (y : S512x1280.Idx) :
    View.TileAt (Val := Elt Ideal) (S := S512x1280) (e := .fp8e4m3) y ![0, q] S512x128.size (tileCode (F := Ideal) h)
      (row3 (fun k => x0 (ix2 (y 0) k)) x1 x2 (y 1)) := by
  intro x hx
  have h0 : (y 0).val = (x 0).val := (hx 0).trans (Nat.zero_add _)
  have h1 : (y 1).val = q + (x 1).val := hx 1
  have hx1 : (x 1).val < 128 := (x 1).isLt
  have e0 : y 0 = x 0 := Fin.ext h0
  have eg : (⟨(y 1).val / 128, by have := (y 1).isLt; change _ < 1280 at this; omega⟩ : Fin 10) = g := Fin.ext (by show (y 1).val / 128 = g.val; omega)
  have ec : (⟨(y 1).val % 128, by omega⟩ : Fin 128) = x 1 := Fin.ext (by show (y 1).val % 128 = (x 1).val; omega)
  have hX : x = ix2 (x 0) (x 1) := funext fun a => by match a with | ⟨0, _⟩ => rfl | ⟨1, _⟩ => rfl
  rw [hX]
  refine (tileCode_apply h (x 0) (x 1)).trans ?_
  unfold row3
  rw [eg, ec, e0]
  exact congrArg (fun f => kCode f (x 1)) (funext fun c => ht (x 0) c)

/-- The store of a tile's scales, at the column `q = g`, holds the row results there. -/
theorem scales_at (h : Vec Ideal S512x128 .f32) (x0 : Vec Ideal S512x2176 .bf16) (x1 : Vec Ideal S20x2176x128 .fp8e4m3)
    (x2 : Vec Ideal S20x1x128 .f32) (g : Fin 10) (q : Nat) (hq : q = g.val)
    (ht : ∀ r c, h (ix2 r c) = gRow (fun k => x0 (ix2 r k)) x1 x2 g c) (y : S512x10.Idx) :
    View.TileAt (Val := Elt Ideal) (S := S512x10) (e := .f32) y ![0, q] S512x1.size (tileScale (F := Ideal) h)
      (row4 (fun k => x0 (ix2 (y 0) k)) x1 x2 (y 1)) := by
  intro x hx
  have h0 : (y 0).val = (x 0).val := (hx 0).trans (Nat.zero_add _)
  have h1 : (y 1).val = q + (x 1).val := hx 1
  have hx1 : (x 1).val < 1 := (x 1).isLt
  have e0 : y 0 = x 0 := Fin.ext h0
  have eg : y 1 = g := Fin.ext (by omega)
  have hX : x = ix2 (x 0) 0 := funext fun a => by
    match a with
    | ⟨0, _⟩ => rfl
    | ⟨1, _⟩ => exact Fin.ext (by show (x 1).val = 0; omega)
  rw [hX]
  refine (tileScale_apply h (x 0)).trans ?_
  unfold row4
  rw [eg, e0]
  exact congrArg (fun f => kScale (top f)) (funext fun c => ht (x 0) c)

/-- Result codes of the point's rows. -/
theorem left3 (x0 : Vec Ideal S512x2176 .bf16) (x1 : Vec Ideal S20x2176x128 .fp8e4m3) (x2 : Vec Ideal S20x1x128 .f32)
    (y : S512x1280.Idx) : out0_3 x0 x1 x2 y = row3 (fun k => x0 (ix2 (y 0) k)) x1 x2 (y 1) := by
  rw [out3_eq]
  refine View.canon_eq_of_allAt _ y _ (cover0_3 _ _ _ _ _ _ _ _ _ _ y) ?_
  refine View.allAt_cons_unit _ _ _ _ _ (codes_at _ x0 x1 x2 9 _ rfl (tile_row x0 x1 x2 9 _ _ rfl rfl _ _ _ _) y) ?_
  refine View.allAt_cons_unit _ _ _ _ _ (codes_at _ x0 x1 x2 8 _ rfl (tile_row x0 x1 x2 8 _ _ rfl rfl _ _ _ _) y) ?_
  refine View.allAt_cons_unit _ _ _ _ _ (codes_at _ x0 x1 x2 7 _ rfl (tile_row x0 x1 x2 7 _ _ rfl rfl _ _ _ _) y) ?_
  refine View.allAt_cons_unit _ _ _ _ _ (codes_at _ x0 x1 x2 6 _ rfl (tile_row x0 x1 x2 6 _ _ rfl rfl _ _ _ _) y) ?_
  refine View.allAt_cons_unit _ _ _ _ _ (codes_at _ x0 x1 x2 5 _ rfl (tile_row x0 x1 x2 5 _ _ rfl rfl _ _ _ _) y) ?_
  refine View.allAt_cons_unit _ _ _ _ _ (codes_at _ x0 x1 x2 4 _ rfl (tile_row x0 x1 x2 4 _ _ rfl rfl _ _ _ _) y) ?_
  refine View.allAt_cons_unit _ _ _ _ _ (codes_at _ x0 x1 x2 3 _ rfl (tile_row x0 x1 x2 3 _ _ rfl rfl _ _ _ _) y) ?_
  refine View.allAt_cons_unit _ _ _ _ _ (codes_at _ x0 x1 x2 2 _ rfl (tile_row x0 x1 x2 2 _ _ rfl rfl _ _ _ _) y) ?_
  refine View.allAt_cons_unit _ _ _ _ _ (codes_at _ x0 x1 x2 1 _ rfl (tile_row x0 x1 x2 1 _ _ rfl rfl _ _ _ _) y) ?_
  refine View.allAt_cons_unit _ _ _ _ _ (codes_at _ x0 x1 x2 0 _ rfl (tile_row x0 x1 x2 0 _ _ rfl rfl _ _ _ _) y) ?_
  exact View.allAt_nil y _

/-- Result scales of the point's rows. -/
theorem left4 (x0 : Vec Ideal S512x2176 .bf16) (x1 : Vec Ideal S20x2176x128 .fp8e4m3) (x2 : Vec Ideal S20x1x128 .f32)
    (y : S512x10.Idx) : out0_4 x0 x1 x2 y = row4 (fun k => x0 (ix2 (y 0) k)) x1 x2 (y 1) := by
  rw [out4_eq]
  refine View.canon_eq_of_allAt _ y _ (cover0_4 _ _ _ _ _ _ _ _ _ _ y) ?_
  refine View.allAt_cons_unit _ _ _ _ _ (scales_at _ x0 x1 x2 9 _ rfl (tile_row x0 x1 x2 9 _ _ rfl rfl _ _ _ _) y) ?_
  refine View.allAt_cons_unit _ _ _ _ _ (scales_at _ x0 x1 x2 8 _ rfl (tile_row x0 x1 x2 8 _ _ rfl rfl _ _ _ _) y) ?_
  refine View.allAt_cons_unit _ _ _ _ _ (scales_at _ x0 x1 x2 7 _ rfl (tile_row x0 x1 x2 7 _ _ rfl rfl _ _ _ _) y) ?_
  refine View.allAt_cons_unit _ _ _ _ _ (scales_at _ x0 x1 x2 6 _ rfl (tile_row x0 x1 x2 6 _ _ rfl rfl _ _ _ _) y) ?_
  refine View.allAt_cons_unit _ _ _ _ _ (scales_at _ x0 x1 x2 5 _ rfl (tile_row x0 x1 x2 5 _ _ rfl rfl _ _ _ _) y) ?_
  refine View.allAt_cons_unit _ _ _ _ _ (scales_at _ x0 x1 x2 4 _ rfl (tile_row x0 x1 x2 4 _ _ rfl rfl _ _ _ _) y) ?_
  refine View.allAt_cons_unit _ _ _ _ _ (scales_at _ x0 x1 x2 3 _ rfl (tile_row x0 x1 x2 3 _ _ rfl rfl _ _ _ _) y) ?_
  refine View.allAt_cons_unit _ _ _ _ _ (scales_at _ x0 x1 x2 2 _ rfl (tile_row x0 x1 x2 2 _ _ rfl rfl _ _ _ _) y) ?_
  refine View.allAt_cons_unit _ _ _ _ _ (scales_at _ x0 x1 x2 1 _ rfl (tile_row x0 x1 x2 1 _ _ rfl rfl _ _ _ _) y) ?_
  refine View.allAt_cons_unit _ _ _ _ _ (scales_at _ x0 x1 x2 0 _ rfl (tile_row x0 x1 x2 0 _ _ rfl rfl _ _ _ _) y) ?_
  exact View.allAt_nil y _

theorem hz : (![0, 0] : Fin 2 → Nat) = fun _ => 0 := funext fun a => by fin_cases a <;> rfl

/-- Activation codes of the point's rows. -/
theorem left5 (x0 : Vec Ideal S512x2176 .bf16) (x1 : Vec Ideal S20x2176x128 .fp8e4m3) (x2 : Vec Ideal S20x1x128 .f32)
    (y : S512x2176.Idx) : out0_5 x0 x1 x2 y = kCode (fun k => x0 (ix2 (y 0) k)) (y 1) := by
  have e0 : View.ld x0 r0_0 = x0 := View.ld_unit_zero hz _ x0
  rw [out5_eq, View.canon_unit_zero hz, e0]
  exact (congrArg (xCode x0) (funext fun a => by match a with | ⟨0, _⟩ => rfl | ⟨1, _⟩ => rfl)).trans (xCode_apply x0 (y 0) (y 1))

/-- Activation scales of the point's rows. -/
theorem left6 (x0 : Vec Ideal S512x2176 .bf16) (x1 : Vec Ideal S20x2176x128 .fp8e4m3) (x2 : Vec Ideal S20x1x128 .f32)
    (y : S512x1.Idx) : out0_6 x0 x1 x2 y = kScale (top (fun k => x0 (ix2 (y 0) k))) := by
  have e0 : View.ld x0 r0_0 = x0 := View.ld_unit_zero hz _ x0
  rw [out6_eq, View.canon_unit_zero hz, e0]
  exact (congrArg (xScale x0) (funext fun a => by
    match a with
    | ⟨0, _⟩ => rfl
    | ⟨1, _⟩ => exact Fin.ext (by show (y 1).val = 0; have : (y 1).val < 1 := (y 1).isLt; omega))).trans (xScale_apply x0 (y 0))

/-! ## The whole arrays -/

variable (m : (ℓ : Loc nD τ sig) → Buf (Elt Ideal) ℓ)

/-- The block indices over the sixteen grid points: the activations and the results move by one block of 512 rows a point,
    the weights and scales stay. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N,
    win0_1.index t (0 : Fin 3) = 0 ∧ win0_1.index t (1 : Fin 3) = 0 ∧ win0_1.index t (2 : Fin 3) = 0 :=
  (by decide +kernel : ∀ t : Fin grid0.N, _)
theorem index2 : ∀ t : Fin cfg0.N,
    win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)

theorem points (t : Fin cfg0.N) : t.val < 16 := lt_of_lt_of_eq t.isLt N_0

/-- Row `i` of the point's block of activations is row `512·t + i` of the array. -/
theorem iblk0_apply (c : Dev nD) (t : Fin cfg0.N) (i : Fin 512) (k : Fin 2176) :
    iblk m c 0 t (ix2 i k) = V m c main_v4 (ix2 ⟨512 * t.val + i.val, by have := points t; omega⟩ k) := by
  obtain ⟨e0, e1⟩ := index0 t
  show V m c main_v4 (((cfg0.win 0).blk t).view.emb (ix2 i k)) = _
  refine congrArg (V m c main_v4) (funext fun a => Fin.ext ?_)
  match a with
  | ⟨0, _⟩ => show win0_0.index t (0 : Fin 2) * 512 + 1 * i.val = 512 * t.val + i.val; omega
  | ⟨1, _⟩ => show win0_0.index t (1 : Fin 2) * 2176 + 1 * k.val = k.val; omega

/-- The point's block of weights is the whole array. -/
theorem iblk1_eq (c : Dev nD) (t : Fin cfg0.N) : iblk m c 1 t = V m c main_v2 := by
  obtain ⟨e0, e1, e2⟩ := index1 t
  funext j
  show V m c main_v2 (((cfg0.win 1).blk t).view.emb j) = _
  refine congrArg (V m c main_v2) (funext fun a => Fin.ext ?_)
  match a with
  | ⟨0, _⟩ => show win0_1.index t (0 : Fin 3) * 20 + 1 * (j 0).val = (j 0).val; omega
  | ⟨1, _⟩ => show win0_1.index t (1 : Fin 3) * 2176 + 1 * (j 1).val = (j 1).val; omega
  | ⟨2, _⟩ => show win0_1.index t (2 : Fin 3) * 128 + 1 * (j 2).val = (j 2).val; omega

/-- The point's block of weight scales is the whole array. -/
theorem iblk2_eq (c : Dev nD) (t : Fin cfg0.N) : iblk m c 2 t = V m c main_v3 := by
  obtain ⟨e0, e1, e2⟩ := index2 t
  funext j
  show V m c main_v3 (((cfg0.win 2).blk t).view.emb j) = _
  refine congrArg (V m c main_v3) (funext fun a => Fin.ext ?_)
  match a with
  | ⟨0, _⟩ => show win0_2.index t (0 : Fin 3) * 20 + 1 * (j 0).val = (j 0).val; omega
  | ⟨1, _⟩ => show win0_2.index t (1 : Fin 3) * 1 + 1 * (j 1).val = (j 1).val; omega
  | ⟨2, _⟩ => show win0_2.index t (2 : Fin 3) * 128 + 1 * (j 2).val = (j 2).val; omega

/-- The array of result codes. -/
def arr3 (X : Vec Ideal S8192x2176 .bf16) (W : Vec Ideal S20x2176x128 .fp8e4m3) (S : Vec Ideal S20x1x128 .f32) :
    Vec Ideal S8192x1280 .fp8e4m3 := fun i => row3 (fun k => X (ix2 (i 0) k)) W S (i 1)

/-- The sixteen points' blocks of result codes make up that array. -/
theorem final3 (c : Dev nD) :
    (dats m 0 c).arrAt 3 cfg0.N = arr3 (V m c main_v4) (V m c main_v2) (V m c main_v3) := by
  refine (dats m 0 c).arrAt_eq_of_covers 3 _ (by decide +kernel) fun t _ y => ?_
  obtain ⟨e0, e1⟩ := index3 t
  change S512x1280.Idx at y
  have r0 : (((cfg0.win 3).blk t).view.emb y) 0
      = (⟨512 * t.val + (y 0).val, by have := points t; have : (y 0).val < 512 := (y 0).isLt; omega⟩ : Fin 8192) :=
    Fin.ext (by show win0_3.index t (0 : Fin 2) * 512 + 1 * (y 0).val = _; rw [e0]; show _ = 512 * t.val + (y 0).val; omega)
  have r1 : (((cfg0.win 3).blk t).view.emb y) 1 = (y 1 : Fin 1280) :=
    Fin.ext (by show win0_3.index t (1 : Fin 2) * 1280 + 1 * (y 1).val = (y 1).val; omega)
  show (dats m 0 c).after 3 t y = _
  rw [after0_3, iblk1_eq, iblk2_eq]
  refine (left3 (iblk m c 0 t) (V m c main_v2) (V m c main_v3) y).trans ?_
  unfold arr3
  beta_reduce
  rw [r0, r1]
  exact congrArg (fun f => row3 f (V m c main_v2) (V m c main_v3) (y 1)) (funext fun k => iblk0_apply m c t (y 0) k)

/-- The array of result scales. -/
def arr4 (X : Vec Ideal S8192x2176 .bf16) (W : Vec Ideal S20x2176x128 .fp8e4m3) (S : Vec Ideal S20x1x128 .f32) :
    Vec Ideal S8192x10 .f32 := fun i => row4 (fun k => X (ix2 (i 0) k)) W S (i 1)

/-- Likewise the result scales. -/
theorem final4 (c : Dev nD) :
    (dats m 0 c).arrAt 4 cfg0.N = arr4 (V m c main_v4) (V m c main_v2) (V m c main_v3) := by
  refine (dats m 0 c).arrAt_eq_of_covers 4 _ (by decide +kernel) fun t _ y => ?_
  obtain ⟨e0, e1⟩ := index4 t
  change S512x10.Idx at y
  have r0 : (((cfg0.win 4).blk t).view.emb y) 0
      = (⟨512 * t.val + (y 0).val, by have := points t; have : (y 0).val < 512 := (y 0).isLt; omega⟩ : Fin 8192) :=
    Fin.ext (by show win0_4.index t (0 : Fin 2) * 512 + 1 * (y 0).val = _; rw [e0]; show _ = 512 * t.val + (y 0).val; omega)
  have r1 : (((cfg0.win 4).blk t).view.emb y) 1 = (y 1 : Fin 10) :=
    Fin.ext (by show win0_4.index t (1 : Fin 2) * 10 + 1 * (y 1).val = (y 1).val; omega)
  show (dats m 0 c).after 4 t y = _
  rw [after0_4, iblk1_eq, iblk2_eq]
  refine (left4 (iblk m c 0 t) (V m c main_v2) (V m c main_v3) y).trans ?_
  unfold arr4
  beta_reduce
  rw [r0, r1]
  exact congrArg (fun f => row4 f (V m c main_v2) (V m c main_v3) (y 1)) (funext fun k => iblk0_apply m c t (y 0) k)

/-- The array of activation codes. -/
def arr5 (X : Vec Ideal S8192x2176 .bf16) (W : Vec Ideal S20x2176x128 .fp8e4m3) (S : Vec Ideal S20x1x128 .f32) :
    Vec Ideal S8192x2176 .fp8e4m3 := fun i => kCode (fun k => X (ix2 (i 0) k)) (i 1)

/-- Likewise the activation codes. -/
theorem final5 (c : Dev nD) :
    (dats m 0 c).arrAt 5 cfg0.N = arr5 (V m c main_v4) (V m c main_v2) (V m c main_v3) := by
  refine (dats m 0 c).arrAt_eq_of_covers 5 _ (by decide +kernel) fun t _ y => ?_
  obtain ⟨e0, e1⟩ := index5 t
  change S512x2176.Idx at y
  have r0 : (((cfg0.win 5).blk t).view.emb y) 0
      = (⟨512 * t.val + (y 0).val, by have := points t; have : (y 0).val < 512 := (y 0).isLt; omega⟩ : Fin 8192) :=
    Fin.ext (by show win0_5.index t (0 : Fin 2) * 512 + 1 * (y 0).val = _; rw [e0]; show _ = 512 * t.val + (y 0).val; omega)
  have r1 : (((cfg0.win 5).blk t).view.emb y) 1 = (y 1 : Fin 2176) :=
    Fin.ext (by show win0_5.index t (1 : Fin 2) * 2176 + 1 * (y 1).val = (y 1).val; omega)
  show (dats m 0 c).after 5 t y = _
  rw [after0_5, iblk1_eq, iblk2_eq]
  refine (left5 (iblk m c 0 t) (V m c main_v2) (V m c main_v3) y).trans ?_
  unfold arr5
  beta_reduce
  rw [r0, r1]
  exact congrArg (fun f => kCode f (y 1)) (funext fun k => iblk0_apply m c t (y 0) k)

/-- The array of activation scales. -/
def arr6 (X : Vec Ideal S8192x2176 .bf16) (W : Vec Ideal S20x2176x128 .fp8e4m3) (S : Vec Ideal S20x1x128 .f32) :
    Vec Ideal S8192x1 .f32 := fun i => kScale (top (fun k => X (ix2 (i 0) k)))

/-- Likewise the activation scales. -/
theorem final6 (c : Dev nD) :
    (dats m 0 c).arrAt 6 cfg0.N = arr6 (V m c main_v4) (V m c main_v2) (V m c main_v3) := by
  refine (dats m 0 c).arrAt_eq_of_covers 6 _ (by decide +kernel) fun t _ y => ?_
  obtain ⟨e0, e1⟩ := index6 t
  change S512x1.Idx at y
  have r0 : (((cfg0.win 6).blk t).view.emb y) 0
      = (⟨512 * t.val + (y 0).val, by have := points t; have : (y 0).val < 512 := (y 0).isLt; omega⟩ : Fin 8192) :=
    Fin.ext (by show win0_6.index t (0 : Fin 2) * 512 + 1 * (y 0).val = _; rw [e0]; show _ = 512 * t.val + (y 0).val; omega)
  show (dats m 0 c).after 6 t y = _
  rw [after0_6, iblk1_eq, iblk2_eq]
  refine (left6 (iblk m c 0 t) (V m c main_v2) (V m c main_v3) y).trans ?_
  unfold arr6
  beta_reduce
  rw [r0]
  exact congrArg (fun f => kScale (top f)) (funext fun k => iblk0_apply m c t (y 0) k)

end Cert.KernelIdeal.Value

end
-- ==== Proof.KernelOperands.lean ====
/- What the kernel's grid reads, in terms of the arguments: the host lays out the weights and their scales group by group,
   the two halves of a group in adjacent planes, and drops the activations' leading axis. -/
module

public import proofs.«01_k».proof.Proof.KernelArrays
public import Idealize.ShloMosaic.Lib.Claim
public import Idealize.ShloMosaic.Lib.Pointwise

@[expose] public section

noncomputable section

namespace Cert.KernelIdeal.Value

open Cert.KernelIdeal Cert.KernelIdeal.Gen Cert.Rows Cert.Exponent
open Idealize.ShloMosaic Idealize.ShloMosaic.TcCoe Idealize.SL.Sem

variable (m : (ℓ : Loc nD τ sig) → Buf (Elt Ideal) ℓ)

/-- Row `r` of the activations. -/
theorem rows_apply (c : Dev nD) (r : Fin 8192) (k : Fin 2176) :
    V m c main_v4 (ix2 r k) = m ((c : Thread nD τ).loc main_arg0) (ix3 0 r k) := by
  entry_read
  pointwise

/-- Plane `2g+h` of the weights is half `h` of group `g`. -/
theorem weights_apply (c : Dev nD) (g : Fin 10) (h : Fin 2) (k : Fin 2176) (j : Fin 128) :
    V m c main_v2 (ix3 ⟨2 * g.val + h.val, by omega⟩ k j) = m ((c : Thread nD τ).loc main_arg1) (ix4 k g h j) := by
  entry_read
  pointwise

/-- Row `2g+h` of the scales is half `h` of group `g`. -/
theorem scales_apply (c : Dev nD) (g : Fin 10) (h : Fin 2) (j : Fin 128) :
    V m c main_v3 (ix3 ⟨2 * g.val + h.val, by omega⟩ 0 j) = m ((c : Thread nD τ).loc main_arg2) (ix3 g h j) := by
  entry_read
  pointwise

end Cert.KernelIdeal.Value

end
-- ==== Proof.ReferenceRows.lean ====
/- The reference's arrays read at an index, over the extended reals: each entry is the row arithmetic of `Rows.lean`. -/
module

public import proofs.«01_k».proof.Proof.Gen.ReferenceIdeal.Frame
public import proofs.«01_k».proof.Proof.Rows

@[expose] public section

set_option maxRecDepth 16384

noncomputable section

namespace Cert.ReferenceIdeal.Value

open Cert.ReferenceIdeal Cert.ReferenceIdeal.Gen Idealize.ShloMosaic Idealize.ShloMosaic.TcCoe Cert.Exponent Cert.Rows

theorem named_c : Named.named (F := Ideal) Cert.ReferenceIdeal.κ "gelu_c" (φ := .f32) 0x3F4C422A#32 = ((cst : ℝ) : EReal) :=
  IdealRules.named_const.ideal_named_scalar _ _ _ _ rfl

theorem named_k :
    Named.named (F := Ideal) Cert.ReferenceIdeal.κ "gelu_k" (φ := .f32) 0x3D372713#32 = ((cub : ℝ) : EReal) :=
  IdealRules.named_const.ideal_named_scalar _ _ _ _ rfl

theorem named_ln2 :
    Named.named (F := Ideal) Cert.ReferenceIdeal.κ "ln2" (φ := .f32) 0x3F317218#32 = ((Real.log 2 : ℝ) : EReal) :=
  IdealRules.named_const.ideal_named_scalar _ _ _ _ rfl

/-- The exponent of every entry of an array of maxima over 448. -/
def expoV {s : Shape} (y : FVec Ideal s .f32) : FVec Ideal s .f32 :=
  select (cmpf .olt y (broadcast s (Scalar.ofBits .f32 0x00800000#32))) (broadcast s (Scalar.ofBits .f32 0x00000000#32))
    (addf (floor (divf (log y) (broadcast s (Named.named κ "ln2" 0x3F317218#32)))) (broadcast s (Scalar.ofBits .f32 0x3F800000#32)))

theorem expoV_apply {s : Shape} (y : FVec Ideal s .f32) (j : s.Idx) : expoV y j = rExp (y j) (Real.log 2 : ℝ) := by
  unfold rExp
  rw [← named_ln2]
  unfold expoV
  pointwise

theorem xPay1 (v : Vec Ideal S8192x2176 .bf16) : k0_pay1 v = v := by
  funext j
  unfold k0_pay1
  idx_vars j
  pointwise

theorem col2 (M : FVec Ideal S8192 .f32) (r : Fin 8192) :
    mulf (shapeCast S8192x1 M shapeCasts_S8192_S8192x1) (broadcast S8192x1 (Scalar.ofBits .f32 0x3B124925#32)) (ix2 r 0) =
      M (ix1 r) * Ideal.ofBits .f32 0x3B124925#32 := by
  pointwise

theorem col3 (M : FVec Ideal S8192x10 .f32) (r : Fin 8192) (g : Fin 10) :
    mulf (shapeCast S8192x10x1 M shapeCasts_S8192x10_S8192x10x1) (broadcast S8192x10x1 (Scalar.ofBits .f32 0x3B124925#32)) (ix3 r g 0) =
      M (ix2 r g) * Ideal.ofBits .f32 0x3B124925#32 := by
  pointwise

theorem red2 (v : FVec Ideal S8192x2176 .f32) (hφ) (hacc) (r : Fin 8192) :
    multiReduction .maximumf [1] S8192 (absf v) 0xFF800000#32 reduces_S8192x2176_S8192 hφ hacc (ix1 r) *
      Ideal.ofBits .f32 0x3B124925#32 = top (fun k => v (ix2 r k)) :=
  top_r2 (m := 8192) (n := 2176) reduces_S8192x2176_S8192 v _ hφ hacc negInf32 r

theorem red3 (v : FVec Ideal S8192x10x128 .f32) (hφ) (hacc) (r : Fin 8192) (g : Fin 10) :
    multiReduction .maximumf [2] S8192x10 (absf v) 0xFF800000#32 reduces_S8192x10x128_S8192x10 hφ hacc (ix2 r g) *
      Ideal.ofBits .f32 0x3B124925#32 = top (fun k => v (ix3 r g k)) :=
  top_r3 (m := 8192) (l := 10) (n := 128) reduces_S8192x10x128_S8192x10 v _ hφ hacc negInf32 r g

/-- The exponent of a row of `x`. -/
theorem pay2_apply (v : Vec Ideal S8192x2176 .bf16) (r : Fin 8192) :
    k0_pay2 v (ix2 r 0) = rTop (fun k => v (ix2 r k)) := by
  unfold k0_pay2
  rw [xPay1]
  refine (expoV_apply _ (ix2 r 0)).trans ?_
  exact congrArg (rExp · (Real.log 2 : ℝ)) ((col2 _ r).trans (red2 v _ _ r))

theorem exp2_apply {s : Shape} (y : FVec Ideal s .f32) (j : s.Idx) : exp2 y j = Ideal.exp2 (y j) := rfl

/-- The codes of `x` from the column of exponents. -/
theorem code2 (y : FVec Ideal S8192x1 .f32) (v : FVec Ideal S8192x2176 .f32) (r : Fin 8192) (k : Fin 2176) :
    truncf .fp8e4m3 (minimumf (broadcast S8192x2176 (Scalar.ofBits .f32 0x43E00000#32))
      (maximumf (broadcast S8192x2176 (Scalar.ofBits .f32 0xC3E00000#32))
        (mulf v (broadcastTo S8192x2176 (exp2 (subf (broadcast S8192x1 (Scalar.ofBits .f32 0x00000000#32)) y))
          broadcasts_S8192x1_S8192x2176)))) bitsLt_fp8e4m3_f32 (ix2 r k) =
      clip (v (ix2 r k) * Ideal.exp2 (0 - y (ix2 r 0))) := by
  unfold clip
  pointwise
  rfl

/-- The codes of the gated products from the array of exponents. -/
theorem code3 (y : FVec Ideal S8192x10x1 .f32) (h : FVec Ideal S8192x10x128 .f32) (r : Fin 8192) (t : Fin 10) (c : Fin 128) :
    shapeCast S8192x1280 (truncf .fp8e4m3 (minimumf (broadcast S8192x10x128 (Scalar.ofBits .f32 0x43E00000#32))
      (maximumf (broadcast S8192x10x128 (Scalar.ofBits .f32 0xC3E00000#32))
        (mulf h (broadcastTo S8192x10x128 (exp2 (subf (broadcast S8192x10x1 (Scalar.ofBits .f32 0x00000000#32)) y))
          broadcasts_S8192x10x1_S8192x10x128)))) bitsLt_fp8e4m3_f32) shapeCasts_S8192x10x128_S8192x1280 (ix2 r ⟨t * 128 + c, by omega⟩) =
      clip (h (ix3 r t c) * Ideal.exp2 (0 - y (ix3 r t 0))) := by
  unfold clip
  pointwise
  rfl

theorem scale3 (y : FVec Ideal S8192x10x1 .f32) (r : Fin 8192) (t : Fin 10) :
    shapeCast S8192x10 y shapeCasts_S8192x10x1_S8192x10 (ix2 r t) = y (ix3 r t 0) := by
  pointwise

theorem pay4_apply (v : Vec Ideal S8192x2176 .bf16) (r : Fin 8192) :
    k0_pay4 v (ix2 r 0) = Ideal.exp2 (rTop (fun k => v (ix2 r k))) := by
  unfold k0_pay4
  exact (exp2_apply _ (ix2 r 0)).trans (congrArg Ideal.exp2 (pay2_apply v r))

theorem pay3_apply (v : Vec Ideal S8192x2176 .bf16) (r : Fin 8192) (k : Fin 2176) :
    k0_pay3 v (ix2 r k) = rCode (fun k => v (ix2 r k)) k := by
  unfold k0_pay3
  rw [xPay1]
  exact (code2 _ _ r k).trans (congrArg (fun e => clip (v (ix2 r k) * Ideal.exp2 (0 - e))) (pay2_apply v r))

theorem pay6_apply (v : Vec Ideal S8192x2176 .bf16) (w : Vec Ideal S2176x2560 .fp8e4m3) (s : Vec Ideal S1x2560 .f32)
    (r : Fin 8192) (g : Fin 10) (c : Fin 128) : k0_pay6 v w s (ix3 r g c) =
      dot (rCode (fun k => v (ix2 r k))) (fun k => w (ix2 k ⟨g * 256 + c, by omega⟩)) (Ideal.exp2 (rTop (fun k => v (ix2 r k))))
        (s (ix2 0 ⟨g * 256 + c, by omega⟩)) := by
  unfold dot
  rw [← pay4_apply v r]
  simp only [← pay3_apply v r]
  unfold k0_pay6 k0_pay5
  generalize k0_pay3 v = xc
  generalize k0_pay4 v = xs
  pointwise

theorem pay7_apply (v : Vec Ideal S8192x2176 .bf16) (w : Vec Ideal S2176x2560 .fp8e4m3) (s : Vec Ideal S1x2560 .f32)
    (r : Fin 8192) (g : Fin 10) (c : Fin 128) : k0_pay7 v w s (ix3 r g c) =
      dot (rCode (fun k => v (ix2 r k))) (fun k => w (ix2 k ⟨g * 256 + 128 + c, by omega⟩)) (Ideal.exp2 (rTop (fun k => v (ix2 r k))))
        (s (ix2 0 ⟨g * 256 + 128 + c, by omega⟩)) := by
  unfold dot
  rw [← pay4_apply v r]
  simp only [← pay3_apply v r]
  unfold k0_pay7 k0_pay5
  generalize k0_pay3 v = xc
  generalize k0_pay4 v = xs
  pointwise

theorem pay9_apply (g u : FVec Ideal S8192x10x128 .f32) (j : S8192x10x128.Idx) :
    k0_pay9 g u (mulf g g) j = rGated (g j) (u j) := by
  unfold rGated
  rw [← named_c, ← named_k]
  unfold k0_pay9
  pointwise

theorem pay10_apply (g u q : FVec Ideal S8192x10x128 .f32) (r : Fin 8192) (t : Fin 10) :
    k0_pay10 g u q (ix3 r t 0) = rTop (fun c => k0_pay9 g u q (ix3 r t c)) := by
  unfold k0_pay10
  refine (expoV_apply _ (ix3 r t 0)).trans ?_
  exact congrArg (rExp · (Real.log 2 : ℝ)) ((col3 _ r t).trans (red3 _ _ _ r t))

theorem pay12_apply (g u q : FVec Ideal S8192x10x128 .f32) (r : Fin 8192) (t : Fin 10) :
    k0_pay12 g u q (ix2 r t) = Ideal.exp2 (rTop (fun c => k0_pay9 g u q (ix3 r t c))) := by
  unfold k0_pay12
  exact (scale3 _ r t).trans ((exp2_apply _ (ix3 r t 0)).trans (congrArg Ideal.exp2 (pay10_apply g u q r t)))

theorem pay11_apply (g u q : FVec Ideal S8192x10x128 .f32) (r : Fin 8192) (t : Fin 10) (c : Fin 128) :
    k0_pay11 g u q (ix2 r ⟨t * 128 + c, by omega⟩) = rCode (fun c => k0_pay9 g u q (ix3 r t c)) c := by
  unfold k0_pay11
  exact (code3 _ _ r t c).trans (congrArg (fun e => clip (k0_pay9 g u q (ix3 r t c) * Ideal.exp2 (0 - e))) (pay10_apply g u q r t))

/-- The reference's gated products, at a row, a group and a column. -/
theorem group_apply (v : Vec Ideal S8192x2176 .bf16) (w : Vec Ideal S2176x2560 .fp8e4m3) (s : Vec Ideal S1x2560 .f32)
    (r : Fin 8192) (t : Fin 10) (c : Fin 128) :
    k0_pay9 (k0_pay6 v w s) (k0_pay7 v w s) (k0_pay8 v w s) (ix3 r t c) =
      rGroup (fun k => v (ix2 r k)) (fun k (c : Fin 128) => w (ix2 k ⟨t * 256 + c, by omega⟩))
        (fun k (c : Fin 128) => w (ix2 k ⟨t * 256 + 128 + c, by omega⟩)) (fun c : Fin 128 => s (ix2 0 ⟨t * 256 + c, by omega⟩))
        (fun c : Fin 128 => s (ix2 0 ⟨t * 256 + 128 + c, by omega⟩)) c := by
  unfold rGroup
  rw [← pay6_apply, ← pay7_apply]
  exact pay9_apply (k0_pay6 v w s) (k0_pay7 v w s) (ix3 r t c)

end Cert.ReferenceIdeal.Value
-- ==== Proof.ReferenceArrays.lean ====
/- The reference's four result arrays, each as one function of the arrays that its one call reads: the activations `X`, the
   weights `W` as a matrix of 2176 × 2560 (columns `256·g` to `256·g+127` and the next 128 are the two halves of group `g`)
   and their scales `S`. The call has one grid point and every window is its whole array. -/
module

public import proofs.«01_k».proof.Proof.Gen.ReferenceIdeal.Value
public import proofs.«01_k».proof.Proof.ReferenceRows
public import Idealize.ShloMosaic.Lib.Pipeline.ValueKit.Geometry

@[expose] public section

noncomputable section

namespace Cert.ReferenceIdeal.Value

open Cert.ReferenceIdeal Cert.ReferenceIdeal.Gen Cert.Rows Cert.Exponent
open Idealize.ShloMosaic Idealize.ShloMosaic.TcCoe Idealize.SL.Sem
open Idealize.ShloMosaic.Pipeline (Dat)

/-- Group `g` of the gated row, from the row `x` of activations and the weights and scales. -/
def gRow (x : Fin 2176 → EReal) (W : Vec Ideal S2176x2560 .fp8e4m3) (S : Vec Ideal S1x2560 .f32) (g : Fin 10) :
    Fin 128 → EReal :=
  rGroup x (fun k (c : Fin 128) => W (ix2 k ⟨g.val * 256 + c.val, by omega⟩))
    (fun k c => W (ix2 k ⟨g.val * 256 + 128 + c.val, by omega⟩))
    (fun c => S (ix2 0 ⟨g.val * 256 + c.val, by omega⟩)) (fun c => S (ix2 0 ⟨g.val * 256 + 128 + c.val, by omega⟩))

/-- The array of result codes: code `n % 128` of group `n / 128` in column `n`. -/
def arr3 (X : Vec Ideal S8192x2176 .bf16) (W : Vec Ideal S2176x2560 .fp8e4m3) (S : Vec Ideal S1x2560 .f32) :
    Vec Ideal S8192x1280 .fp8e4m3 := fun i =>
  rCode (gRow (fun k => X (ix2 (i 0) k)) W S ⟨(i 1).val / 128, by have : (i 1).val < 1280 := (i 1).isLt; omega⟩)
    ⟨(i 1).val % 128, by omega⟩

/-- The array of result scales. -/
def arr4 (X : Vec Ideal S8192x2176 .bf16) (W : Vec Ideal S2176x2560 .fp8e4m3) (S : Vec Ideal S1x2560 .f32) :
    Vec Ideal S8192x10 .f32 := fun i => Ideal.exp2 (rTop (gRow (fun k => X (ix2 (i 0) k)) W S (i 1)))

/-- The array of activation codes. -/
def arr5 (X : Vec Ideal S8192x2176 .bf16) : Vec Ideal S8192x2176 .fp8e4m3 := fun i => rCode (fun k => X (ix2 (i 0) k)) (i 1)

/-- The array of activation scales. -/
def arr6 (X : Vec Ideal S8192x2176 .bf16) : Vec Ideal S8192x1 .f32 := fun i => Ideal.exp2 (rTop (fun k => X (ix2 (i 0) k)))

/-! ## What the call leaves -/

theorem hz : (![0, 0] : Fin 2 → Nat) = fun _ => 0 := funext fun a => by fin_cases a <;> rfl

/-- The stages' loads are of the whole operands. -/
theorem stages_eq (X : Vec Ideal S8192x2176 .bf16) (W : Vec Ideal S2176x2560 .fp8e4m3) (S : Vec Ideal S1x2560 .f32) :
    k0_pay13 X W S = k0_pay6 X W S ∧ k0_pay14 X W S = k0_pay7 X W S ∧ k0_pay15 X W S = k0_pay8 X W S := by
  have e0 : View.ld X r0_0 = X := View.ld_unit_zero hz _ X
  have e1 : View.ld W r0_1 = W := View.ld_unit_zero hz _ W
  have e2 : View.ld S r0_2 = S := View.ld_unit_zero hz _ S
  unfold k0_pay13 k0_pay14 k0_pay15
  rw [e0, e1, e2]
  exact ⟨rfl, rfl, rfl⟩

theorem left3 (X : Vec Ideal S8192x2176 .bf16) (W : Vec Ideal S2176x2560 .fp8e4m3) (S : Vec Ideal S1x2560 .f32) :
    out0_3 X W S = arr3 X W S := by
  obtain ⟨e6, e7, e8⟩ := stages_eq X W S
  unfold out0_3
  rw [View.canon_unit_zero hz, e6, e7, e8]
  funext i
  have h1 : (i 1).val < 1280 := (i 1).isLt
  have hi : i = ix2 (i 0) ⟨(⟨(i 1).val / 128, by omega⟩ : Fin 10).val * 128 + (⟨(i 1).val % 128, by omega⟩ : Fin 128).val, by
      show (i 1).val / 128 * 128 + (i 1).val % 128 < 1280; omega⟩ := funext fun a => by
    match a with
    | ⟨0, _⟩ => rfl
    | ⟨1, _⟩ => exact Fin.ext (by show (i 1).val = (i 1).val / 128 * 128 + (i 1).val % 128; omega)
  refine (congrArg (k0_pay11 (k0_pay6 X W S) (k0_pay7 X W S) (k0_pay8 X W S)) hi).trans ?_
  refine (pay11_apply _ _ _ (i 0) ⟨(i 1).val / 128, by omega⟩ ⟨(i 1).val % 128, by omega⟩).trans ?_
  exact congrArg (fun f => rCode f ⟨(i 1).val % 128, by omega⟩)
    (funext fun c => group_apply X W S (i 0) ⟨(i 1).val / 128, by omega⟩ c)

theorem left4 (X : Vec Ideal S8192x2176 .bf16) (W : Vec Ideal S2176x2560 .fp8e4m3) (S : Vec Ideal S1x2560 .f32) :
    out0_4 X W S = arr4 X W S := by
  obtain ⟨e6, e7, e8⟩ := stages_eq X W S
  unfold out0_4
  rw [View.canon_unit_zero hz, e6, e7, e8]
  funext i
  have hi : i = ix2 (i 0) (i 1) := funext fun a => by match a with | ⟨0, _⟩ => rfl | ⟨1, _⟩ => rfl
  refine (congrArg (k0_pay12 (k0_pay6 X W S) (k0_pay7 X W S) (k0_pay8 X W S)) hi).trans ?_
  refine (pay12_apply _ _ _ (i 0) (i 1)).trans ?_
  exact congrArg (fun f => Ideal.exp2 (rTop f)) (funext fun c => group_apply X W S (i 0) (i 1) c)

theorem left5 (X : Vec Ideal S8192x2176 .bf16) (W : Vec Ideal S2176x2560 .fp8e4m3) (S : Vec Ideal S1x2560 .f32) :
    out0_5 X W S = arr5 X := by
  have e0 : View.ld X r0_0 = X := View.ld_unit_zero hz _ X
  unfold out0_5
  rw [View.canon_unit_zero hz, e0]
  funext i
  have hi : i = ix2 (i 0) (i 1) := funext fun a => by match a with | ⟨0, _⟩ => rfl | ⟨1, _⟩ => rfl
  exact (congrArg (k0_pay3 X) hi).trans (pay3_apply X (i 0) (i 1))

theorem left6 (X : Vec Ideal S8192x2176 .bf16) (W : Vec Ideal S2176x2560 .fp8e4m3) (S : Vec Ideal S1x2560 .f32) :
    out0_6 X W S = arr6 X := by
  have e0 : View.ld X r0_0 = X := View.ld_unit_zero hz _ X
  unfold out0_6
  rw [View.canon_unit_zero hz, e0]
  funext i
  have hi : i = ix2 (i 0) 0 := funext fun a => by
    match a with
    | ⟨0, _⟩ => rfl
    | ⟨1, _⟩ => exact Fin.ext (by show (i 1).val = 0; have : (i 1).val < 1 := (i 1).isLt; omega)
  exact (congrArg (k0_pay4 X) hi).trans (pay4_apply X (i 0))

/-! ## The whole arrays -/

variable (m : (ℓ : Loc nD τ sig) → Buf (Elt Ideal) ℓ)

theorem iblk0_eq (c : Dev nD) (t : Fin cfg0.N) : iblk m c 0 t = V m c main_v1 := by
  funext j
  show V m c main_v1 (((cfg0.win 0).blk t).view.emb j) = _
  refine congrArg (V m c main_v1) (funext fun a => Fin.ext ?_)
  match a with
  | ⟨0, _⟩ => show 0 * 8192 + 1 * (j 0).val = (j 0).val; omega
  | ⟨1, _⟩ => show 0 * 2176 + 1 * (j 1).val = (j 1).val; omega

theorem iblk1_eq (c : Dev nD) (t : Fin cfg0.N) : iblk m c 1 t = V m c main_v2 := by
  funext j
  show V m c main_v2 (((cfg0.win 1).blk t).view.emb j) = _
  refine congrArg (V m c main_v2) (funext fun a => Fin.ext ?_)
  match a with
  | ⟨0, _⟩ => show 0 * 2176 + 1 * (j 0).val = (j 0).val; omega
  | ⟨1, _⟩ => show 0 * 2560 + 1 * (j 1).val = (j 1).val; omega

theorem iblk2_eq (c : Dev nD) (t : Fin cfg0.N) : iblk m c 2 t = V m c main_v3 := by
  funext j
  show V m c main_v3 (((cfg0.win 2).blk t).view.emb j) = _
  refine congrArg (V m c main_v3) (funext fun a => Fin.ext ?_)
  match a with
  | ⟨0, _⟩ => show 0 * 1 + 1 * (j 0).val = (j 0).val; omega
  | ⟨1, _⟩ => show 0 * 2560 + 1 * (j 1).val = (j 1).val; omega

theorem final3 (c : Dev nD) : (dats m 0 c).arrAt 3 cfg0.N = arr3 (V m c main_v1) (V m c main_v2) (V m c main_v3) := by
  refine (dats m 0 c).arrAt_eq_of_covers 3 _ (by decide +kernel) fun t _ y => ?_
  change S8192x1280.Idx at y
  have r : ((cfg0.win 3).blk t).view.emb y = y := funext fun a => Fin.ext (by
    match a with
    | ⟨0, _⟩ => show 0 * 8192 + 1 * (y 0).val = (y 0).val; omega
    | ⟨1, _⟩ => show 0 * 1280 + 1 * (y 1).val = (y 1).val; omega)
  show (dats m 0 c).after 3 t y = _
  rw [r, after0_3, iblk0_eq, iblk1_eq, iblk2_eq, left3]

theorem final4 (c : Dev nD) : (dats m 0 c).arrAt 4 cfg0.N = arr4 (V m c main_v1) (V m c main_v2) (V m c main_v3) := by
  refine (dats m 0 c).arrAt_eq_of_covers 4 _ (by decide +kernel) fun t _ y => ?_
  change S8192x10.Idx at y
  have r : ((cfg0.win 4).blk t).view.emb y = y := funext fun a => Fin.ext (by
    match a with
    | ⟨0, _⟩ => show 0 * 8192 + 1 * (y 0).val = (y 0).val; omega
    | ⟨1, _⟩ => show 0 * 10 + 1 * (y 1).val = (y 1).val; omega)
  show (dats m 0 c).after 4 t y = _
  rw [r, after0_4, iblk0_eq, iblk1_eq, iblk2_eq, left4]

theorem final5 (c : Dev nD) : (dats m 0 c).arrAt 5 cfg0.N = arr5 (V m c main_v1) := by
  refine (dats m 0 c).arrAt_eq_of_covers 5 _ (by decide +kernel) fun t _ y => ?_
  change S8192x2176.Idx at y
  have r : ((cfg0.win 5).blk t).view.emb y = y := funext fun a => Fin.ext (by
    match a with
    | ⟨0, _⟩ => show 0 * 8192 + 1 * (y 0).val = (y 0).val; omega
    | ⟨1, _⟩ => show 0 * 2176 + 1 * (y 1).val = (y 1).val; omega)
  show (dats m 0 c).after 5 t y = _
  rw [r, after0_5, iblk0_eq, iblk1_eq, iblk2_eq, left5]

theorem final6 (c : Dev nD) : (dats m 0 c).arrAt 6 cfg0.N = arr6 (V m c main_v1) := by
  refine (dats m 0 c).arrAt_eq_of_covers 6 _ (by decide +kernel) fun t _ y => ?_
  change S8192x1.Idx at y
  have r : ((cfg0.win 6).blk t).view.emb y = y := funext fun a => Fin.ext (by
    match a with
    | ⟨0, _⟩ => show 0 * 8192 + 1 * (y 0).val = (y 0).val; omega
    | ⟨1, _⟩ => show 0 * 1 + 1 * (y 1).val = (y 1).val; omega)
  show (dats m 0 c).after 6 t y = _
  rw [r, after0_6, iblk0_eq, iblk1_eq, iblk2_eq, left6]

end Cert.ReferenceIdeal.Value

end
-- ==== Proof.ReferenceOperands.lean ====
/- What the reference's call reads, in terms of the arguments: the weights and their scales laid out as matrices of 2560
   columns, half `h` of group `g` at the 128 columns from `256·g + 128·h`, and the activations without their leading axis. -/
module

public import proofs.«01_k».proof.Proof.ReferenceArrays
public import Idealize.ShloMosaic.Lib.Claim
public import Idealize.ShloMosaic.Lib.Pointwise

@[expose] public section

noncomputable section

namespace Cert.ReferenceIdeal.Value

open Cert.ReferenceIdeal Cert.ReferenceIdeal.Gen Cert.Rows Cert.Exponent
open Idealize.ShloMosaic Idealize.ShloMosaic.TcCoe Idealize.SL.Sem

variable (m : (ℓ : Loc nD τ sig) → Buf (Elt Ideal) ℓ)

/-- Row `r` of the activations. -/
theorem rows_apply (c : Dev nD) (r : Fin 8192) (k : Fin 2176) :
    V m c main_v1 (ix2 r k) = m ((c : Thread nD τ).loc main_arg0) (ix3 0 r k) := by
  entry_read
  pointwise

/-- The first half of group `g` of the weights. -/
theorem weights0_apply (c : Dev nD) (g : Fin 10) (k : Fin 2176) (j : Fin 128) :
    V m c main_v2 (ix2 k ⟨g.val * 256 + j.val, by omega⟩) = m ((c : Thread nD τ).loc main_arg1) (ix4 k g 0 j) := by
  entry_read
  pointwise
  exact congrArg (fun h : Fin 2 => m ((c : Thread nD τ).loc main_arg1) (ix4 k g h j)) (Fin.ext (by show (g.val * 256 + j.val) / 128 % 2 = 0; omega))

/-- The second half of group `g` of the weights. -/
theorem weights1_apply (c : Dev nD) (g : Fin 10) (k : Fin 2176) (j : Fin 128) :
    V m c main_v2 (ix2 k ⟨g.val * 256 + 128 + j.val, by omega⟩) = m ((c : Thread nD τ).loc main_arg1) (ix4 k g 1 j) := by
  entry_read
  pointwise
  exact congrArg (fun h : Fin 2 => m ((c : Thread nD τ).loc main_arg1) (ix4 k g h j)) (Fin.ext (by show (g.val * 256 + 128 + j.val) / 128 % 2 = 1; omega))

/-- The first half of group `g` of the scales. -/
theorem scales0_apply (c : Dev nD) (g : Fin 10) (j : Fin 128) :
    V m c main_v3 (ix2 0 ⟨g.val * 256 + j.val, by omega⟩) = m ((c : Thread nD τ).loc main_arg2) (ix3 g 0 j) := by
  entry_read
  pointwise
  exact congrArg (fun h : Fin 2 => m ((c : Thread nD τ).loc main_arg2) (ix3 g h j)) (Fin.ext (by show (g.val * 256 + j.val) / 128 % 2 = 0; omega))

/-- The second half of group `g` of the scales. -/
theorem scales1_apply (c : Dev nD) (g : Fin 10) (j : Fin 128) :
    V m c main_v3 (ix2 0 ⟨g.val * 256 + 128 + j.val, by omega⟩) = m ((c : Thread nD τ).loc main_arg2) (ix3 g 1 j) := by
  entry_read
  pointwise
  exact congrArg (fun h : Fin 2 => m ((c : Thread nD τ).loc main_arg2) (ix3 g h j)) (Fin.ext (by show (g.val * 256 + 128 + j.val) / 128 % 2 = 1; omega))

end Cert.ReferenceIdeal.Value

end
-- ==== Proof.Equal.lean ====
/- The two programs' result arrays are equal when their arguments are and the arguments are moderate: row by row, the kernel's
   codes and scales are the reference's (`Cert.Rows.codes_eq`, `Cert.Rows.group_eq`), both being read from the arguments. -/
module

public import proofs.«01_k».proof.Proof.KernelOperands
public import proofs.«01_k».proof.Proof.ReferenceOperands

@[expose] public section

noncomputable section

namespace Cert.Equal

open Cert.Rows Cert.Exponent Idealize.ShloMosaic Idealize.ShloMosaic.TcCoe Idealize.SL.Sem

/-- The arguments' entries at one device, as the two programs see them: equal, and within the precondition's bounds. -/
structure Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop where
  e0 : m' ((c : Thread ReferenceIdeal.nD ReferenceIdeal.τ).loc ReferenceIdeal.main_arg0) = m ((c : Thread KernelIdeal.nD KernelIdeal.τ).loc KernelIdeal.main_arg0)
  e1 : m' ((c : Thread ReferenceIdeal.nD ReferenceIdeal.τ).loc ReferenceIdeal.main_arg1) = m ((c : Thread KernelIdeal.nD KernelIdeal.τ).loc KernelIdeal.main_arg1)
  e2 : m' ((c : Thread ReferenceIdeal.nD ReferenceIdeal.τ).loc ReferenceIdeal.main_arg2) = m ((c : Thread KernelIdeal.nD KernelIdeal.τ).loc KernelIdeal.main_arg2)
  b0 : ∀ i, Bd 268435456 (m ((c : Thread KernelIdeal.nD KernelIdeal.τ).loc KernelIdeal.main_arg0) i)
  b1 : ∀ i, Bd 448 (m ((c : Thread KernelIdeal.nD KernelIdeal.τ).loc KernelIdeal.main_arg1) i)
  b2 : ∀ i, Bd 65536 (m ((c : Thread KernelIdeal.nD KernelIdeal.τ).loc KernelIdeal.main_arg2) i)

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} {c : Dev KernelIdeal.nD}

/-- Row `r` of the activations, and row `r` of group `g`'s operands, from the kernel's arguments. -/
def actRow (m : (ℓ : Loc KernelIdeal.nD KernelIdeal.τ KernelIdeal.sig) → Buf (Elt Ideal) ℓ) (c : Dev KernelIdeal.nD)
    (r : Fin 8192) (k : Fin 2176) : EReal := m ((c : Thread KernelIdeal.nD KernelIdeal.τ).loc KernelIdeal.main_arg0) (ix3 0 r k)
def weight (m : (ℓ : Loc KernelIdeal.nD KernelIdeal.τ KernelIdeal.sig) → Buf (Elt Ideal) ℓ) (c : Dev KernelIdeal.nD)
    (g : Fin 10) (h : Fin 2) (k : Fin 2176) (j : Fin 128) : EReal := m ((c : Thread KernelIdeal.nD KernelIdeal.τ).loc KernelIdeal.main_arg1) (ix4 k g h j)
def wScale (m : (ℓ : Loc KernelIdeal.nD KernelIdeal.τ KernelIdeal.sig) → Buf (Elt Ideal) ℓ) (c : Dev KernelIdeal.nD)
    (g : Fin 10) (h : Fin 2) (j : Fin 128) : EReal := m ((c : Thread KernelIdeal.nD KernelIdeal.τ).loc KernelIdeal.main_arg2) (ix3 g h j)

theorem kernel_row (r : Fin 8192) :
    (fun k => KernelIdeal.Gen.V m c KernelIdeal.main_v4 (ix2 r k)) = actRow m c r :=
  funext fun k => KernelIdeal.Value.rows_apply m c r k

theorem reference_row (h : Agree m m' c) (r : Fin 8192) :
    (fun k => ReferenceIdeal.Gen.V m' c ReferenceIdeal.main_v1 (ix2 r k)) = actRow m c r :=
  funext fun k => (ReferenceIdeal.Value.rows_apply m' c r k).trans (congrFun h.e0 _)

theorem kernel_group (x : Fin 2176 → EReal) (g : Fin 10) :
    KernelIdeal.Value.gRow x (KernelIdeal.Gen.V m c KernelIdeal.main_v2) (KernelIdeal.Gen.V m c KernelIdeal.main_v3) g
      = kGroup x (weight m c g 0) (weight m c g 1) (wScale m c g 0) (wScale m c g 1) := by
  have w0 := funext fun k => funext fun j => KernelIdeal.Value.weights_apply m c g 0 k j
  have w1 := funext fun k => funext fun j => KernelIdeal.Value.weights_apply m c g 1 k j
  have s0 := funext fun j => KernelIdeal.Value.scales_apply m c g 0 j
  have s1 := funext fun j => KernelIdeal.Value.scales_apply m c g 1 j
  have key : ∀ {w w' u u' : Fin 2176 → Fin 128 → EReal} {s s' t t' : Fin 128 → EReal}, w = w' → u = u' → s = s' → t = t' →
      kGroup x w u s t = kGroup x w' u' s' t' := by
    rintro _ _ _ _ _ _ _ _ rfl rfl rfl rfl; rfl
  exact key w0 w1 s0 s1

theorem reference_group (h : Agree m m' c) (x : Fin 2176 → EReal) (g : Fin 10) :
    ReferenceIdeal.Value.gRow x (ReferenceIdeal.Gen.V m' c ReferenceIdeal.main_v2) (ReferenceIdeal.Gen.V m' c ReferenceIdeal.main_v3) g
      = rGroup x (weight m c g 0) (weight m c g 1) (wScale m c g 0) (wScale m c g 1) := by
  have w0 := funext fun k => funext fun j => (ReferenceIdeal.Value.weights0_apply m' c g k j).trans (congrFun h.e1 _)
  have w1 := funext fun k => funext fun j => (ReferenceIdeal.Value.weights1_apply m' c g k j).trans (congrFun h.e1 _)
  have s0 := funext fun j => (ReferenceIdeal.Value.scales0_apply m' c g j).trans (congrFun h.e2 _)
  have s1 := funext fun j => (ReferenceIdeal.Value.scales1_apply m' c g j).trans (congrFun h.e2 _)
  have key : ∀ {w w' u u' : Fin 2176 → Fin 128 → EReal} {s s' t t' : Fin 128 → EReal}, w = w' → u = u' → s = s' → t = t' →
      rGroup x w u s t = rGroup x w' u' s' t' := by
    rintro _ _ _ _ _ _ _ _ rfl rfl rfl rfl; rfl
  exact key w0 w1 s0 s1

/-- Rows of activations: codes and scale agree. -/
theorem act (h : Agree m m' c) (r : Fin 8192) :
    kCode (actRow m c r) = rCode (actRow m c r) ∧ kScale (top (actRow m c r)) = Ideal.exp2 (rTop (actRow m c r)) := by
  have := codes_eq (n := 2176) (by norm_num) (B := 268435456) (by norm_num) (f := actRow m c r) (fun k => h.b0 _)
  exact ⟨this.1, this.2.1⟩

/-- Groups of a row: the two programs gate the same values, and their codes and scale agree. -/
theorem gated (h : Agree m m' c) (r : Fin 8192) (g : Fin 10) :
    kCode (kGroup (actRow m c r) (weight m c g 0) (weight m c g 1) (wScale m c g 0) (wScale m c g 1))
        = rCode (rGroup (actRow m c r) (weight m c g 0) (weight m c g 1) (wScale m c g 0) (wScale m c g 1))
      ∧ kScale (top (kGroup (actRow m c r) (weight m c g 0) (weight m c g 1) (wScale m c g 0) (wScale m c g 1)))
        = Ideal.exp2 (rTop (rGroup (actRow m c r) (weight m c g 0) (weight m c g 1) (wScale m c g 0) (wScale m c g 1))) := by
  obtain ⟨e, b⟩ := group_eq (x := actRow m c r) (w0 := weight m c g 0) (w1 := weight m c g 1) (s0 := wScale m c g 0)
    (s1 := wScale m c g 1) (fun k => h.b0 _) (fun k j => h.b1 _) (fun k j => h.b1 _) (fun j => h.b2 _) (fun j => h.b2 _)
  have := codes_eq (n := 128) (by norm_num) (B := 2 ^ 132) (by norm_num) b
  rw [← e]
  exact ⟨this.1, this.2.1⟩

/-- The same as the two programs' arrays state it. -/
theorem act_rows (h : Agree m m' c) (r : Fin 8192) :
    rCode (fun k => ReferenceIdeal.Gen.V m' c ReferenceIdeal.main_v1 (ix2 r k))
        = kCode (fun k => KernelIdeal.Gen.V m c KernelIdeal.main_v4 (ix2 r k))
      ∧ Ideal.exp2 (rTop (fun k => ReferenceIdeal.Gen.V m' c ReferenceIdeal.main_v1 (ix2 r k)))
        = kScale (top (fun k => KernelIdeal.Gen.V m c KernelIdeal.main_v4 (ix2 r k))) := by
  rw [kernel_row, reference_row h]
  exact ⟨(act h r).1.symm, (act h r).2.symm⟩

theorem gated_rows (h : Agree m m' c) (r : Fin 8192) (g : Fin 10) :
    rCode (ReferenceIdeal.Value.gRow (fun k => ReferenceIdeal.Gen.V m' c ReferenceIdeal.main_v1 (ix2 r k))
          (ReferenceIdeal.Gen.V m' c ReferenceIdeal.main_v2) (ReferenceIdeal.Gen.V m' c ReferenceIdeal.main_v3) g)
        = kCode (KernelIdeal.Value.gRow (fun k => KernelIdeal.Gen.V m c KernelIdeal.main_v4 (ix2 r k))
          (KernelIdeal.Gen.V m c KernelIdeal.main_v2) (KernelIdeal.Gen.V m c KernelIdeal.main_v3) g)
      ∧ Ideal.exp2 (rTop (ReferenceIdeal.Value.gRow (fun k => ReferenceIdeal.Gen.V m' c ReferenceIdeal.main_v1 (ix2 r k))
          (ReferenceIdeal.Gen.V m' c ReferenceIdeal.main_v2) (ReferenceIdeal.Gen.V m' c ReferenceIdeal.main_v3) g))
        = kScale (top (KernelIdeal.Value.gRow (fun k => KernelIdeal.Gen.V m c KernelIdeal.main_v4 (ix2 r k))
          (KernelIdeal.Gen.V m c KernelIdeal.main_v2) (KernelIdeal.Gen.V m c KernelIdeal.main_v3) g)) := by
  rw [kernel_row, reference_row h, kernel_group, reference_group h]
  exact ⟨(gated h r g).1.symm, (gated h r g).2.symm⟩

/-- The result codes. -/
theorem result3 (h : Agree m m' c) :
    ReferenceIdeal.Value.arr3 (ReferenceIdeal.Gen.V m' c ReferenceIdeal.main_v1) (ReferenceIdeal.Gen.V m' c ReferenceIdeal.main_v2) (ReferenceIdeal.Gen.V m' c ReferenceIdeal.main_v3)
      = KernelIdeal.Value.arr3 (KernelIdeal.Gen.V m c KernelIdeal.main_v4) (KernelIdeal.Gen.V m c KernelIdeal.main_v2) (KernelIdeal.Gen.V m c KernelIdeal.main_v3) :=
  funext fun i => congrFun (gated_rows h (i 0) ⟨(i 1).val / 128, by have : (i 1).val < 1280 := (i 1).isLt; omega⟩).1 ⟨(i 1).val % 128, by omega⟩

/-- The result scales. -/
theorem result4 (h : Agree m m' c) :
    ReferenceIdeal.Value.arr4 (ReferenceIdeal.Gen.V m' c ReferenceIdeal.main_v1) (ReferenceIdeal.Gen.V m' c ReferenceIdeal.main_v2) (ReferenceIdeal.Gen.V m' c ReferenceIdeal.main_v3)
      = KernelIdeal.Value.arr4 (KernelIdeal.Gen.V m c KernelIdeal.main_v4) (KernelIdeal.Gen.V m c KernelIdeal.main_v2) (KernelIdeal.Gen.V m c KernelIdeal.main_v3) :=
  funext fun i => (gated_rows h (i 0) (i 1)).2

/-- The activation codes. -/
theorem result5 (h : Agree m m' c) :
    ReferenceIdeal.Value.arr5 (ReferenceIdeal.Gen.V m' c ReferenceIdeal.main_v1)
      = KernelIdeal.Value.arr5 (KernelIdeal.Gen.V m c KernelIdeal.main_v4) (KernelIdeal.Gen.V m c KernelIdeal.main_v2) (KernelIdeal.Gen.V m c KernelIdeal.main_v3) :=
  funext fun i => congrFun (act_rows h (i 0)).1 (i 1)

/-- The activation scales. -/
theorem result6 (h : Agree m m' c) :
    ReferenceIdeal.Value.arr6 (ReferenceIdeal.Gen.V m' c ReferenceIdeal.main_v1)
      = KernelIdeal.Value.arr6 (KernelIdeal.Gen.V m c KernelIdeal.main_v4) (KernelIdeal.Gen.V m c KernelIdeal.main_v2) (KernelIdeal.Gen.V m c KernelIdeal.main_v3) :=
  funext fun i => (act_rows h (i 0)).2

end Cert.Equal

end
-- ==== Proof.Moderate.lean ====
/- The precondition read back: where it holds, every argument entry is a real number within its bound. -/
module

public import proofs.«01_k».proof.Pre_moderate
public import proofs.«01_k».proof.Proof.Rows
public import Idealize.ShloMosaic.Lib.ReduceAll
public import Idealize.ShloMosaic.Lib.WordArith

@[expose] public section

noncomputable section

namespace Cert.Moderate

open Cert.Rows Cert.Pre_moderate Idealize.ShloMosaic

/-- A comparison of a magnitude with a constant that came out true bounds the entry. -/
theorem bounded {s : Shape} {φ : FTy} (x : FVec Ideal s φ) (b : BitVec φ.bits) (B : ℝ) (hb : Ideal.ofBits φ b = (B : EReal))
    (bc) (i : s.Idx)
    (h : cmpf .ole (Host.absf x) (broadcastInDim s ![] bc (constant (F := Ideal) S_ φ b)) i = 1#1) : Bd B (x i) := by
  have h' : BitVec.ofBool (decide (mag (x i) ≤ Ideal.ofBits φ b)) = 1#1 := h
  refine Bd.of_mag (hb ▸ ?_)
  by_contra hn
  rw [decide_eq_false hn] at h'
  exact absurd h' (by decide)

theorem and_one : ∀ {a b : BitVec 1}, a &&& b = 1#1 → a = 1#1 ∧ b = 1#1 := by decide

instance : Subsingleton S_.Idx := ⟨fun a b => funext fun k => k.elim0⟩

/-- The three conjuncts of the precondition: the activations up to 2^28, the weights up to 448, their scales up to 65536. -/
theorem bounds [Facts] (a0 : FVec Ideal S1x8192x2176 .bf16) (a1 : FVec Ideal S2176x10x2x128 .f32)
    (a2 : FVec Ideal S10x2x128 .f32) (h : fn a0 a1 a2 = fun _ => 1#1) :
    (∀ i, Bd 268435456 (a0 i)) ∧ (∀ i, Bd 448 (a1 i)) ∧ (∀ i, Bd 65536 (a2 i)) := by
  have h := congrFun h (fun k => k.elim0)
  dsimp only [fn] at h
  obtain ⟨h01, h2⟩ := and_one h
  obtain ⟨h0, h1⟩ := and_one h01
  exact ⟨fun i => bounded a0 _ _ lit_x _ i (Host.reduce_andi_all _ _ _ _ _ h0 i),
    fun i => bounded a1 _ _ lit_448 _ i (Host.reduce_andi_all _ _ _ _ _ h1 i),
    fun i => bounded a2 _ _ lit_65536 _ i (Host.reduce_andi_all _ _ _ _ _ h2 i)⟩

end Cert.Moderate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_moderate
public import proofs.«01_k».proof.Proof.Gen.ReferenceIdeal.Value
public import proofs.«01_k».proof.Proof.Equal
public import proofs.«01_k».proof.Proof.Moderate
public import Idealize.ShloMosaic.Adequacy
public import Idealize.ShloMosaic.Init

@[expose] public section

noncomputable section

namespace Cert.Proof

open Idealize.ShloMosaic Idealize.ShloMosaic.TcCoe Idealize.SL.Sem Cert.Kernel

/-- From moderate arguments the two programs leave the same four results: each run is its array function of the arguments
    (`final3` … `final6` of the two sides), and those agree (`Cert.Equal.result3` … `result6`). -/
theorem algebraic : algebraic_KernelIdeal_ReferenceIdeal_pre_moderate (hKernelIdeal := Cert.KernelIdeal.Gen.facts)
    (hReferenceIdeal := Cert.ReferenceIdeal.Gen.facts) (hPre_moderate := Cert.Pre_moderate.Gen.facts) := by
  intro m g m' g' hpre hargs
  have hA : ∀ c, Equal.Agree m m' c := fun c =>
    have b := @Moderate.bounds Cert.Pre_moderate.Gen.facts _ _ _ (hpre c)
    ⟨(hargs c).1, (hargs c).2.1, (hargs c).2.2, b.1, b.2.1, b.2.2⟩
  refine ⟨fun c => KernelIdeal.Value.arr3 (KernelIdeal.Gen.V m c KernelIdeal.main_v4) (KernelIdeal.Gen.V m c KernelIdeal.main_v2) (KernelIdeal.Gen.V m c KernelIdeal.main_v3),
    fun c => KernelIdeal.Value.arr4 (KernelIdeal.Gen.V m c KernelIdeal.main_v4) (KernelIdeal.Gen.V m c KernelIdeal.main_v2) (KernelIdeal.Gen.V m c KernelIdeal.main_v3),
    fun c => KernelIdeal.Value.arr5 (KernelIdeal.Gen.V m c KernelIdeal.main_v4) (KernelIdeal.Gen.V m c KernelIdeal.main_v2) (KernelIdeal.Gen.V m c KernelIdeal.main_v3),
    fun c => KernelIdeal.Value.arr6 (KernelIdeal.Gen.V m c KernelIdeal.main_v4) (KernelIdeal.Gen.V m c KernelIdeal.main_v2) (KernelIdeal.Gen.V m c KernelIdeal.main_v3),
    ?_, ?_⟩
  · refine (θ_run KernelIdeal.defs _ _).mono (fun _ h c => ?_) (KernelIdeal.Value.run_blocks m g)
    obtain ⟨h3, h4, h5, h6, h⟩ := h c
    exact ⟨h3.trans (KernelIdeal.Value.final3 m c), h4.trans (KernelIdeal.Value.final4 m c),
      h5.trans (KernelIdeal.Value.final5 m c), h6.trans (KernelIdeal.Value.final6 m c), h⟩
  · refine (θ_run ReferenceIdeal.defs _ _).mono (fun _ h c => ?_) (ReferenceIdeal.Value.run_blocks m' g')
    obtain ⟨h3, h4, h5, h6, h⟩ := h c
    exact ⟨(h3.trans (ReferenceIdeal.Value.final3 m' c)).trans (Equal.result3 (hA c)),
      (h4.trans (ReferenceIdeal.Value.final4 m' c)).trans (Equal.result4 (hA c)),
      (h5.trans (ReferenceIdeal.Value.final5 m' c)).trans (Equal.result5 (hA c)),
      (h6.trans (ReferenceIdeal.Value.final6 m' c)).trans (Equal.result6 (hA c)), h⟩

/-- The certificate: the frames of the kernel, of its idealized form and of the reference; the idealized form keeps the
    kernel; and the idealized form and the reference leave equal results. -/
theorem claim : Cert.Claim := ⟨Cert.Kernel.Gen.facts, Cert.KernelIdeal.Gen.facts, Cert.ReferenceIdeal.Gen.facts, Cert.Pre_moderate.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  ⟨IdealRules.named_const.statement _ _ _ _ _ rfl, IdealRules.named_const.statement _ _ _ _ _ rfl⟩,
  algebraic⟩

end Cert.Proof

end
